-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x2 : Shape := ⟨2, ![1048576, 2]⟩
abbrev S8192x128x2 : Shape := ⟨3, ![8192, 128, 2]⟩
abbrev S8192x2x128 : Shape := ⟨3, ![8192, 2, 128]⟩
abbrev S2097152 : Shape := ⟨1, ![2097152]⟩
abbrev S16384 : Shape := ⟨1, ![16384]⟩
abbrev S4 : Shape := ⟨1, ![4]⟩
abbrev S1 : Shape := ⟨1, ![1]⟩
abbrev S_ : Shape := ⟨0, ![]⟩
abbrev S16 : Shape := ⟨1, ![16]⟩

abbrev nBuf : Table → Nat
  | .hbm => 8
  | .local .scVector .vmem => 4
  | _ => 0

abbrev bufTy : (tb : Table) → Fin (nBuf tb) → BufTy
  | .hbm, ⟨0, _⟩ => ⟨S1048576x2, .f32⟩
  | .hbm, ⟨1, _⟩ => ⟨S8192x128x2, .f32⟩
  | .hbm, ⟨2, _⟩ => ⟨S8192x2x128, .f32⟩
  | .hbm, ⟨3, _⟩ => ⟨S2097152, .f32⟩
  | .hbm, ⟨4, _⟩ => ⟨S2097152, .f32⟩
  | .hbm, ⟨5, _⟩ => ⟨S8192x2x128, .f32⟩
  | .hbm, ⟨6, _⟩ => ⟨S8192x128x2, .f32⟩
  | .hbm, ⟨7, _⟩ => ⟨S1048576x2, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | _, _ => ⟨S1048576x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c65536_i32 : BitVec 32 := 65536#32
  let v2 : BitVec 32 := Scalar.muli v1 c65536_i32
  ![v2.toNat]
def k0_off2 (i : grid0.Coords) (c16384_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c65536_i32 : BitVec 32 := 65536#32
  let v2 : BitVec 32 := Scalar.muli v1 c65536_i32
  let v7 : BitVec 32 := Scalar.addi v2 c16384_i32
  ![v7.toNat]
@[reducible] def k0_t1_loop : Scf.Loop 32 :=
  let c0_i32_1 : BitVec 32 := 0#32
  let c512_i32 : BitVec 32 := 512#32
  let v16 : BitVec 32 := Scalar.addi c0_i32_1 c512_i32
  let c1_i32_2 : BitVec 32 := 1#32
  ⟨c0_i32_1, v16, c1_i32_2⟩
def k0_off3 (k0_t1 : Fin k0_t1_loop.trips) : Fin 1 → Nat :=
  let c0_i32_32 : BitVec 32 := 0#32
  let c0_i32_1 : BitVec 32 := 0#32
  let c1_i32_2 : BitVec 32 := 1#32
  let arg9 : BitVec 32 := Scf.iv c0_i32_1 c1_i32_2 k0_t1
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let v85 : Index := Scalar.indexCast v84
  ![v85.toNat]
def k0_off4 (k0_t1 : Fin k0_t1_loop.trips) : Fin 1 → Nat :=
  let c0_i32_32 : BitVec 32 := 0#32
  let c0_i32_1 : BitVec 32 := 0#32
  let c1_i32_2 : BitVec 32 := 1#32
  let arg9 : BitVec 32 := Scf.iv c0_i32_1 c1_i32_2 k0_t1
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let c128_i32 : BitVec 32 := 128#32
  let v88 : BitVec 32 := Scalar.addi v84 c128_i32
  let v89 : Index := Scalar.indexCast v88
  ![v89.toNat]
@[reducible] def k0_t2_loop : Scf.Loop 32 :=
  let c0_i32_7 : BitVec 32 := 0#32
  let c512_i32_8 : BitVec 32 := 512#32
  let v31 : BitVec 32 := Scalar.addi c0_i32_7 c512_i32_8
  let c1_i32_9 : BitVec 32 := 1#32
  ⟨c0_i32_7, v31, c1_i32_9⟩
def k0_off5 (k0_t2 : Fin k0_t2_loop.trips) : Fin 1 → Nat :=
  let c0_i32_32 : BitVec 32 := 0#32
  let c0_i32_7 : BitVec 32 := 0#32
  let c1_i32_9 : BitVec 32 := 1#32
  let arg9 : BitVec 32 := Scf.iv c0_i32_7 c1_i32_9 k0_t2
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let v85 : Index := Scalar.indexCast v84
  ![v85.toNat]
def k0_off6 (k0_t2 : Fin k0_t2_loop.trips) : Fin 1 → Nat :=
  let c0_i32_32 : BitVec 32 := 0#32
  let c0_i32_7 : BitVec 32 := 0#32
  let c1_i32_9 : BitVec 32 := 1#32
  let arg9 : BitVec 32 := Scf.iv c0_i32_7 c1_i32_9 k0_t2
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let c128_i32 : BitVec 32 := 128#32
  let v88 : BitVec 32 := Scalar.addi v84 c128_i32
  let v89 : Index := Scalar.indexCast v88
  ![v89.toNat]
@[reducible] def k0_t3_loop : Scf.Loop 32 :=
  let c0_i32_15 : BitVec 32 := 0#32
  let c512_i32_16 : BitVec 32 := 512#32
  let v50 : BitVec 32 := Scalar.addi c0_i32_15 c512_i32_16
  let c1_i32_17 : BitVec 32 := 1#32
  ⟨c0_i32_15, v50, c1_i32_17⟩
def k0_off7 (k0_t3 : Fin k0_t3_loop.trips) : Fin 1 → Nat :=
  let c0_i32_32 : BitVec 32 := 0#32
  let c0_i32_15 : BitVec 32 := 0#32
  let c1_i32_17 : BitVec 32 := 1#32
  let arg9 : BitVec 32 := Scf.iv c0_i32_15 c1_i32_17 k0_t3
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let v85 : Index := Scalar.indexCast v84
  ![v85.toNat]
def k0_off8 (k0_t3 : Fin k0_t3_loop.trips) : Fin 1 → Nat :=
  let c0_i32_32 : BitVec 32 := 0#32
  let c0_i32_15 : BitVec 32 := 0#32
  let c1_i32_17 : BitVec 32 := 1#32
  let arg9 : BitVec 32 := Scf.iv c0_i32_15 c1_i32_17 k0_t3
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let c128_i32 : BitVec 32 := 128#32
  let v88 : BitVec 32 := Scalar.addi v84 c128_i32
  let v89 : Index := Scalar.indexCast v88
  ![v89.toNat]
@[reducible] def k0_t4_loop : Scf.Loop 32 :=
  let c0_i32_23 : BitVec 32 := 0#32
  let c512_i32_24 : BitVec 32 := 512#32
  let v64 : BitVec 32 := Scalar.addi c0_i32_23 c512_i32_24
  let c1_i32_25 : BitVec 32 := 1#32
  ⟨c0_i32_23, v64, c1_i32_25⟩
def k0_off9 (k0_t4 : Fin k0_t4_loop.trips) : Fin 1 → Nat :=
  let c0_i32_32 : BitVec 32 := 0#32
  let c0_i32_23 : BitVec 32 := 0#32
  let c1_i32_25 : BitVec 32 := 1#32
  let arg9 : BitVec 32 := Scf.iv c0_i32_23 c1_i32_25 k0_t4
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let v85 : Index := Scalar.indexCast v84
  ![v85.toNat]
def k0_off10 (k0_t4 : Fin k0_t4_loop.trips) : Fin 1 → Nat :=
  let c0_i32_32 : BitVec 32 := 0#32
  let c0_i32_23 : BitVec 32 := 0#32
  let c1_i32_25 : BitVec 32 := 1#32
  let arg9 : BitVec 32 := Scf.iv c0_i32_23 c1_i32_25 k0_t4
  let c1_i32_31 : BitVec 32 := 1#32
  let v78 : BitVec 32 := Scalar.muli arg9 c1_i32_31
  let v79 : BitVec 32 := Scalar.addi c0_i32_32 v78
  let c3_i32_33 : BitVec 32 := 3#32
  let v80 : BitVec 32 := Scalar.shrsi v79 c3_i32_33
  let c8_i32 : BitVec 32 := 8#32
  let v81 : BitVec 32 := Scalar.shli v80 c8_i32
  let c7_i32 : BitVec 32 := 7#32
  let v82 : BitVec 32 := Scalar.andi v79 c7_i32
  let c4_i32 : BitVec 32 := 4#32
  let v83 : BitVec 32 := Scalar.shli v82 c4_i32
  let v84 : BitVec 32 := Scalar.addi v81 v83
  let c128_i32 : BitVec 32 := 128#32
  let v88 : BitVec 32 := Scalar.addi v84 c128_i32
  let v89 : Index := Scalar.indexCast v88
  ![v89.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x2 : Shape := ⟨2, ![1048576, 2]⟩
abbrev S1048576x1 : Shape := ⟨2, ![1048576, 1]⟩
abbrev S1048576 : Shape := ⟨1, ![1048576]⟩
abbrev S_ : Shape := ⟨0, ![]⟩
abbrev S1 : Shape := ⟨1, ![1]⟩
abbrev S1048576x1x2 : Shape := ⟨3, ![1048576, 1, 2]⟩
abbrev S1048576x2x2 : Shape := ⟨3, ![1048576, 2, 2]⟩

abbrev nBuf : Space → Nat
  | .hbm => 73
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S1048576x1, .f32⟩
  | .hbm, ⟨2, _⟩ => ⟨S1048576, .f32⟩
  | .hbm, ⟨3, _⟩ => ⟨S_, .f32⟩
  | .hbm, ⟨4, _⟩ => ⟨S1048576, .f32⟩
  | .hbm, ⟨5, _⟩ => ⟨S1048576, .f32⟩
  | .hbm, ⟨6, _⟩ => ⟨S_, .i32⟩
  | .hbm, ⟨7, _⟩ => ⟨S1, .i32⟩
  | .hbm, ⟨8, _⟩ => ⟨S1048576x2, .f32⟩
  | .hbm, ⟨9, _⟩ => ⟨S1048576x2, .f32⟩
  | .hbm, ⟨10, _⟩ => ⟨S_, .f32⟩
  | .hbm, ⟨11, _⟩ => ⟨S1048576x2, .f32⟩
  | .hbm, ⟨12, _⟩ => ⟨S1048576x2, .f32⟩
  | .hbm, ⟨13, _⟩ => ⟨S1048576x2, .f32⟩
  | .hbm, ⟨14, _⟩ => ⟨S_, .f32⟩
  | .hbm, ⟨15, _⟩ => ⟨S1048576x2, .f32⟩
  | .hbm, ⟨16, _⟩ => ⟨S1048576x2, .f32⟩
  | .hbm, ⟨17, _⟩ => ⟨S1048576x1, .f32⟩
  | .hbm, ⟨18, _⟩ => ⟨S1048576, .f32⟩
  | .hbm, ⟨19, _⟩ => ⟨S_, .f32⟩
  | .hbm, ⟨20, _⟩ => ⟨S1048576, .f32⟩
  | .hbm, ⟨21, _⟩ => ⟨S1048576, .f32⟩
  | .hbm, ⟨22, _⟩ => ⟨S_, .i32⟩
  | .hbm, ⟨23, _⟩ => ⟨S1, .i32⟩
  | .hbm, ⟨24, _⟩ => ⟨S1048576x2, .f32⟩
  | .hbm, ⟨25, _⟩ => ⟨S1048576x1, .f32⟩
  | .hbm, ⟨26, _⟩ => ⟨S1048576, .f32⟩
  | .hbm, ⟨27, _⟩ => ⟨S_, .f32⟩
  | .hbm, ⟨28, _⟩ => ⟨S1048576, .f32⟩
  | .hbm, ⟨29, _⟩ => ⟨S1048576, .f32⟩
  | .hbm, ⟨30, _⟩ => ⟨S_, .i32⟩
  | .hbm, ⟨31, _⟩ => ⟨S1, .i32⟩
  | .hbm, ⟨32, _⟩ => ⟨S1048576x2, .f32⟩
  | .hbm, ⟨33, _⟩ => ⟨S1048576x1x2, .f32⟩
  | .hbm, ⟨34, _⟩ => ⟨S1048576x1x2, .f32⟩
  | .hbm, ⟨35, _⟩ => ⟨S1048576x2x2, .f32⟩
  | .hbm, ⟨36, _⟩ => ⟨S1048576x2, .f32⟩
  | .hbm, ⟨37, _⟩ => ⟨S1048576x2, .f32⟩
  | .hbm, ⟨38, _⟩ => ⟨S_, .f32⟩
  | .hbm, ⟨39, _⟩ => ⟨S1048576, .f32⟩
  | .hbm, ⟨40, _⟩ => ⟨S1048576, .f32⟩
  | .hbm, ⟨41, _⟩ => ⟨S1048576x2, .f32⟩
  | .hbm, ⟨42, _⟩ => ⟨S1048576x2, .f32⟩
  | .hbm, ⟨43, _⟩ => ⟨S_, .f32⟩
  | .hbm, ⟨44, _⟩ => ⟨S1048576, .f32⟩
  | .hbm, ⟨45, _⟩ => ⟨S1048576, .f32⟩
  | .hbm, ⟨46, _⟩ => ⟨S1048576x1, .f32⟩
  | .hbm, ⟨47, _⟩ => ⟨S1048576x1, .f32⟩
  | .hbm, ⟨48, _⟩ => ⟨S1048576x2, .f32⟩
  | .hbm, ⟨49, _⟩ => ⟨S1048576x2, .i32⟩
  | .hbm, ⟨50, _⟩ => ⟨S_, .f32⟩
  | .hbm, ⟨51, _⟩ => ⟨S_, .i32⟩
  | .hbm, ⟨52, _⟩ => ⟨S1048576, .f32⟩
  | .hbm, ⟨53, _⟩ => ⟨S1048576, .i32⟩
  | .hbm, ⟨54, _⟩ => ⟨S1048576, .i32⟩
  | .hbm, ⟨55, _⟩ => ⟨S_, .i32⟩
  | .hbm, ⟨56, _⟩ => ⟨S1048576, .i32⟩
  | .hbm, ⟨57, _⟩ => ⟨S1048576, .i1⟩
  | .hbm, ⟨58, _⟩ => ⟨S_, .i32⟩
  | .hbm, ⟨59, _⟩ => ⟨S1048576, .i32⟩
  | .hbm, ⟨60, _⟩ => ⟨S1048576, .i32⟩
  | .hbm, ⟨61, _⟩ => ⟨S1048576, .i32⟩
  | .hbm, ⟨62, _⟩ => ⟨S_, .i32⟩
  | .hbm, ⟨63, _⟩ => ⟨S1048576, .i32⟩
  | .hbm, ⟨64, _⟩ => ⟨S1048576, .i1⟩
  | .hbm, ⟨65, _⟩ => ⟨S_, .i32⟩
  | .hbm, ⟨66, _⟩ => ⟨S1048576, .i32⟩
  | .hbm, ⟨67, _⟩ => ⟨S1048576, .i32⟩
  | .hbm, ⟨68, _⟩ => ⟨S1048576, .i32⟩
  | .hbm, ⟨69, _⟩ => ⟨S1048576x1, .i32⟩
  | .hbm, ⟨70, _⟩ => ⟨S1048576x1, .i32⟩
  | .hbm, ⟨71, _⟩ => ⟨S1048576x2, .i32⟩
  | .hbm, ⟨72, _⟩ => ⟨S1048576x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_v28 : Ref sig .tc := ⟨.hbm, 40, rfl⟩
abbrev main_v29 : Ref sig .tc := ⟨.hbm, 41, rfl⟩
abbrev main_call3_v0 : Ref sig .tc := ⟨.hbm, 42, rfl⟩
abbrev main_call3_cst : Ref sig .tc := ⟨.hbm, 43, rfl⟩
abbrev main_call3_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call4_v0 : Ref sig .tc := ⟨.hbm, 49, rfl⟩
abbrev main_call4_cst : Ref sig .tc := ⟨.hbm, 50, rfl⟩
abbrev main_call4_c : Ref sig .tc := ⟨.hbm, 51, rfl⟩
abbrev main_call4_v1_0 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== Proof.Lattice.Formula.lean ====
/-
  The nearest lattice point, one point of the plane at a time, and the layout in which the kernel holds its points.

  A point `(a, b)` has two candidates: the nearest point of the rectangular lattice `ℤ × √3 ℤ`, and the nearest point
  of the same lattice moved by half a cell both ways. The nearer of the two is the answer, the first one on a tie.

  The kernel's flat array holds 128 points in 256 consecutive elements: the 128 first coordinates, then the 128 second
  coordinates. `quantised X p` is what the answer's array, in the same layout, holds at position `p`.
-/
module

public import Idealize.ShloMosaic.PureOps
public import Idealize.ShloMosaic.Lib.Pointwise.Index

@[expose] public section

noncomputable section

namespace Cert.Proof.Lattice

open Idealize.ShloMosaic

variable {F : FTy → Type} [FloatOps F]

/-- The literal for `√3`. -/
def root3 : F .f32 := Scalar.ofBits .f32 0x3FDDB3D7#32

/-- The literal for one half. -/
def half : F .f32 := Scalar.ofBits .f32 0x3F000000#32

/-- The nearest integer. -/
def whole (v : F .f32) : F .f32 := FloatOps.roundeven v

/-- The nearest integer plus a half. -/
def halves (v : F .f32) : F .f32 := FloatOps.addf (FloatOps.roundeven (FloatOps.subf v half)) half

/-- The second coordinate of the first candidate. -/
def second₁ (b : F .f32) : F .f32 := FloatOps.mulf (whole (FloatOps.divf b root3)) root3

/-- The second coordinate of the second candidate. -/
def second₂ (b : F .f32) : F .f32 := FloatOps.mulf (halves (FloatOps.divf b root3)) root3

/-- The squared distance from `(a, b)` to `(u, v)`. -/
def dist2 (a b u v : F .f32) : F .f32 :=
  FloatOps.addf (FloatOps.mulf (FloatOps.subf a u) (FloatOps.subf a u)) (FloatOps.mulf (FloatOps.subf b v) (FloatOps.subf b v))

/-- Whether the first candidate is the nearer, or as near. -/
def takeFirst (a b : F .f32) : BitVec 1 :=
  FloatOps.cmpf .ole (dist2 a b (whole a) (second₁ b)) (dist2 a b (halves a) (second₂ b))

/-- The first coordinate of the nearest lattice point. -/
def near₀ (a b : F .f32) : F .f32 := Scalar.select (takeFirst a b) (whole a) (halves a)

/-- The second coordinate of the nearest lattice point. -/
def near₁ (a b : F .f32) : F .f32 := Scalar.select (takeFirst a b) (second₁ b) (second₂ b)

/-- The answer at position `p` of the flat layout, the points in the same layout. -/
def quantised (X : ℕ → F .f32) (p : ℕ) : F .f32 :=
  if p % 256 < 128 then near₀ (X p) (X (p + 128)) else near₁ (X (p - 128)) (X p)

/-- A vector's elements by position (zero past its end, where nothing reads it). -/
def at' {n : ℕ} (x : (⟨1, ![n]⟩ : Shape).Idx → F .f32) (p : ℕ) : F .f32 :=
  if h : p < n then x (ix1 ⟨p, h⟩) else Scalar.ofBits .f32 0#32

theorem at'_of_lt {n : ℕ} (x : (⟨1, ![n]⟩ : Shape).Idx → F .f32) (y : (⟨1, ![n]⟩ : Shape).Idx) (p : ℕ) (hp : (y 0).val = p) :
    at' x p = x y := by
  subst hp
  unfold at'
  rw [dif_pos (show (y 0).val < n from (y 0).isLt)]
  congr 1
  exact (eq_ix1 y).symm

/-- The answer's array for the points' array, in the flat layout. -/
def answer {n : ℕ} (x : (⟨1, ![n]⟩ : Shape).Idx → F .f32) (y : (⟨1, ![n]⟩ : Shape).Idx) : F .f32 := quantised (at' x) (y 0).val

/-- A piece of the array that begins at a multiple of 256 is quantised by itself. -/
theorem answer_piece {n n' : ℕ} (x : (⟨1, ![n]⟩ : Shape).Idx → F .f32) (e : (⟨1, ![n']⟩ : Shape).Idx → (⟨1, ![n]⟩ : Shape).Idx) (o : ℕ)
    (ho : o % 256 = 0) (hn' : n' % 256 = 0) (he : ∀ z, (e z 0).val = o + (z 0).val) (y : (⟨1, ![n']⟩ : Shape).Idx) :
    answer (fun z => x (e z)) y = answer x (e y) := by
  have key : ∀ p, p < n' → at' (fun z => x (e z)) p = at' x (o + p) := fun p hp => by
    rw [at'_of_lt (fun z => x (e z)) (ix1 ⟨p, hp⟩) p rfl, at'_of_lt x (e (ix1 ⟨p, hp⟩)) (o + p) (he _)]
  have hy : (y 0).val < n' := (y 0).isLt
  unfold answer quantised
  rw [he]
  have h256 : (o + (y 0).val) % 256 = (y 0).val % 256 := by omega
  rw [h256]
  split
  · rw [key _ hy, key _ (by omega)]; rfl
  · rw [key _ hy, key _ (by omega), show o + ((y 0).val - 128) = o + (y 0).val - 128 by omega]

end Cert.Proof.Lattice

end
-- ==== Proof.Lattice.Setup.lean ====
/-
  The kernel as its launch sees it: two SparseCores of sixteen tiles each, one call for all of them.

  A tile works on 65536 consecutive elements of the flat array, in four pieces of 16384. The four pieces of the points'
  array are `xChunk`, those of the answer's array `oChunk`; `chunkSet c s r` is the piece's set of positions.
-/
module

public import proofs.«01_k».proof.Defs
public import proofs.«01_k».proof.Proof.Gen.KernelIdeal
public import proofs.«01_k».proof.Proof.Gen.KernelIdeal.Skeleton
public import proofs.«01_k».proof.Proof.Lattice.Formula
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's parts -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and belong to no task, and no task's buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The handshakes' rounds beside the transfers' counters. -/
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The points' array and the answer's array, both in the flat layout. -/
abbrev xLoc (d : Dev nD) : Loc nD τ sig := (SparseCore.T d).loc main_v2
abbrev oLoc (d : Dev nD) : Loc nD τ sig := (SparseCore.T d).loc main_v3

local notation "xV" => (Memref.whole Cert.KernelIdeal.main_v2_scv : Memref Cert.KernelIdeal.sig Kind.scVector Space.hbm Cert.KernelIdeal.S2097152 EltTy.f32)
local notation "oV" => (Memref.whole Cert.KernelIdeal.main_v3_scv : Memref Cert.KernelIdeal.sig Kind.scVector Space.hbm Cert.KernelIdeal.S2097152 EltTy.f32)

abbrev cV (L : grid0.Coords) : Fin τ.nSC := (L 0).castLE hcore0
abbrev jV (L : grid0.Coords) : Fin τ.nSub := (L 1).castLE hsub0

/-- The tile's coordinates from its SparseCore's number and its own. -/
def coordsV (c : Fin (grid0.bound 0)) (s : Fin (grid0.bound 1)) : grid0.Coords :=
  fun | 0 => c | 1 => s | ⟨_ + 2, h⟩ => absurd h (Nat.not_lt.2 (Nat.le_add_left _ _))

end Cert.Proof.Lattice

end
-- ==== Proof.Lattice.Trip.lean ====
/-
  One trip of the kernel's inner loop: sixteen points, read from the buffer of points and written to the buffer of
  answers. `Inv k` is what the loop keeps: the first `k` groups of sixteen points are answered.
-/
module

public import proofs.«01_k».proof.Proof.Lattice.Setup
public import Idealize.ShloMosaic.Lib.Pointwise.Reshape

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Positions -/

/-- Where trip `k` reads its sixteen first coordinates. -/
theorem off3_eq (k : Fin k0_t1_loop.trips) : k0_off3 k = ![256 * (k.val / 8) + 16 * (k.val % 8)] := by
  revert k; decide +kernel
/-- Where trip `k` reads its sixteen second coordinates. -/
theorem off4_eq (k : Fin k0_t1_loop.trips) : k0_off4 k = ![256 * (k.val / 8) + 16 * (k.val % 8) + 128] := by
  revert k; decide +kernel

/-- Position `p` belongs to one of the first `k` groups of sixteen points. -/
def Done (k p : ℕ) : Prop := 8 * (p / 256) + p % 128 / 16 < k

variable [FloatOps F]

/-- After trip `k`'s two stores the groups up to `k` included are answered. -/
theorem done_step {κ : Kind} {sp : Space} (v : View sig κ sp S16384 .f32) (f : v.ty.Contents (Elt F)) (X : S16384.Idx → F .f32) (k : ℕ)
    (offA offB : Fin 1 → ℕ) (inA : ∀ a, offA a + S16.size a ≤ S16384.size a) (inB : ∀ a, offB a + S16.size a ≤ S16384.size a)
    (hA : offA = ![256 * (k / 8) + 16 * (k % 8)]) (hB : offB = ![256 * (k / 8) + 16 * (k % 8) + 128])
    (wA wB : S16.Idx → F .f32)
    (hwA : ∀ z, wA z = near₀ (X ((Rect.unit (s := S16384) offA S16.size inA).emb z)) (X ((Rect.unit (s := S16384) offB S16.size inB).emb z)))
    (hwB : ∀ z, wB z = near₁ (X ((Rect.unit (s := S16384) offA S16.size inA).emb z)) (X ((Rect.unit (s := S16384) offB S16.size inB).emb z)))
    (hf : ∀ y : S16384.Idx, Done k (y 0).val → v.read (Elt F) f y = answer X y) (y : S16384.Idx) (hy : Done (k + 1) (y 0).val) :
    v.read (Elt F) (v.writes (Elt F) f [⟨Rect.unit (s := S16384) offB S16.size inB, wB⟩, ⟨Rect.unit (s := S16384) offA S16.size inA, wA⟩]) y
      = answer X y := by
  subst hA hB
  have hlt : (y 0).val < 16384 := (y 0).isLt
  unfold Done at hy hf
  by_cases hB : 256 * (k / 8) + 16 * (k % 8) + 128 ≤ (y 0).val ∧ (y 0).val < 256 * (k / 8) + 16 * (k % 8) + 128 + 16
  · refine (View.read_writes_cons_hit_of_coords v f (Rect.unit (s := S16384) ![256 * (k / 8) + 16 * (k % 8) + 128] S16.size inB) wB _ (ix1 (n0 := 16) ⟨(y 0).val - (256 * (k / 8) + 16 * (k % 8) + 128), by omega⟩) y
      (fun a => match a with
        | ⟨0, _⟩ => by
          show (y 0).val = (256 * (k / 8) + 16 * (k % 8) + 128) + 1 * ((y 0).val - (256 * (k / 8) + 16 * (k % 8) + 128))
          omega)).trans ?_
    rw [hwB]
    unfold answer quantised
    rw [if_neg (by omega)]
    congr 1
    · refine (at'_of_lt X _ _ ?_).symm
      show (256 * (k / 8) + 16 * (k % 8)) + 1 * ((y 0).val - (256 * (k / 8) + 16 * (k % 8) + 128)) = _
      omega
    · refine (at'_of_lt X _ _ ?_).symm
      show (256 * (k / 8) + 16 * (k % 8) + 128) + 1 * ((y 0).val - (256 * (k / 8) + 16 * (k % 8) + 128)) = _
      omega
  · rw [View.read_writes_cons_miss_of_axis v f ⟨Rect.unit (s := S16384) _ S16.size inB, wB⟩ _ y 0
      (256 * (k / 8) + 16 * (k % 8) + 128) 16 rfl rfl rfl (by omega)]
    by_cases hA : 256 * (k / 8) + 16 * (k % 8) ≤ (y 0).val ∧ (y 0).val < 256 * (k / 8) + 16 * (k % 8) + 16
    · refine (View.read_writes_cons_hit_of_coords v f (Rect.unit (s := S16384) ![256 * (k / 8) + 16 * (k % 8)] S16.size inA) wA _ (ix1 (n0 := 16) ⟨(y 0).val - (256 * (k / 8) + 16 * (k % 8)), by omega⟩) y
        (fun a => match a with
          | ⟨0, _⟩ => by
            show (y 0).val = (256 * (k / 8) + 16 * (k % 8)) + 1 * ((y 0).val - (256 * (k / 8) + 16 * (k % 8)))
            omega)).trans ?_
      rw [hwA]
      unfold answer quantised
      rw [if_pos (by omega)]
      congr 1
      · refine (at'_of_lt X _ _ ?_).symm
        show (256 * (k / 8) + 16 * (k % 8)) + 1 * ((y 0).val - (256 * (k / 8) + 16 * (k % 8))) = _
        omega
      · refine (at'_of_lt X _ _ ?_).symm
        show (256 * (k / 8) + 16 * (k % 8) + 128) + 1 * ((y 0).val - (256 * (k / 8) + 16 * (k % 8))) = _
        omega
    · rw [View.read_writes_cons_miss_of_axis v f ⟨Rect.unit (s := S16384) _ S16.size inA, wA⟩ _ y 0
        (256 * (k / 8) + 16 * (k % 8)) 16 rfl rfl rfl (by omega)]
      exact hf y (by omega)

/-! ## The values stored -/

theorem pay_first (a b : Vec F S16 .f32) (z : S16.Idx) : k0_pay37 (k0_pay9 a b) z = near₀ (a z) (b z) := by
  unfold k0_pay37 k0_pay9 k0_pay8 k0_pay7 k0_pay6 k0_pay5 k0_pay4 k0_pay3 k0_pay2 k0_pay1
  simp only [shapeCast_id]
  rfl

theorem pay_second (a b : Vec F S16 .f32) (z : S16.Idx) : k0_pay38 (k0_pay6 b) (k0_pay7 b) (k0_pay8 a b) z = near₁ (a z) (b z) := by
  unfold k0_pay38 k0_pay8 k0_pay7 k0_pay6 k0_pay5 k0_pay4 k0_pay3 k0_pay2 k0_pay1
  simp only [shapeCast_id]
  rfl

/-! ## The trip -/

section Trip

variable (d : Dev nD) (L : grid0.Coords)

/-- Before trip `k`: the buffer of points as it is, the buffer of answers answered in its first `k` groups. -/
def Inv (src dst : Memref sig .scVector .vmem S16384 .f32) (fs : Buf (Elt F) (src.view.loc (V d (cV L) (jV L)))) (k : ℕ) (_ : PUnit) : sProp 𝕄 :=
  iprop((src.view.loc (V d (cV L) (jV L)) ↦{fullShare} fs)
    ∗ ∃ f : Buf (Elt F) (dst.view.loc (V d (cV L) (jV L))),
        ⌜∀ y : S16384.Idx, Done k (y 0).val → dst.view.read (Elt F) f y = answer (src.view.read (Elt F) fs) y⌝
          ∗ (dst.view.loc (V d (cV L) (jV L)) ↦{fullShare} f))

theorem trip (x o : Memref sig .scVector .hbm S2097152 .f32) (hx : x.IsWhole) (ho : o.IsWhole)
    (src spare dst spare' : Memref sig .scVector .vmem S16384 .f32) (hsrc : src.IsWhole) (hspare : spare.IsWhole) (hdst : dst.IsWhole)
    (hspare' : spare'.IsWhole) (sems : DmaSems sig S4) (fs : Buf (Elt F) (src.view.loc (V d (cV L) (jV L)))) (k : Fin k0_t1_loop.trips) :
    Inv d L src dst fs k.val ⟨⟩
      ⊢ wp frame (wpE (defs₀ (F := F)) 𝒱₀ (V d (cV L) (jV L)) none) Set.univ
          (k0_t1_body L x hx o ho src hsrc spare hspare dst hdst spare' hspare' sems k ())
          fun _ => (Inv d L src dst fs (k.val + 1) ⟨⟩ : sProp 𝕄) := by
  unfold k0_t1_body
  simp only [k0_part1_eq_skeleton]
  unfold k0_part1_skel Inv
  iintro ⟨Hs, %f, %hf, Hd⟩
  sl_exec
  sl_step
  isplitl [Hs]; · iexact Hs
  iexists _
  isplitr
  swap; · iexact Hd
  ipureintro
  exact done_step dst.view f (src.view.read (Elt F) fs) k.val (k0_off3 k) (k0_off4 k) (k0_off3_inb k) (k0_off4_inb k) (off3_eq k) (off4_eq k)
    _ _ (fun z => pay_first _ _ z) (fun z => pay_second _ _ z) hf

end Trip

end Cert.Proof.Lattice

end
-- ==== Proof.Lattice.Pieces.lean ====
/-
  What one tile's task works on: four pieces of the points' array in, four pieces of answers out, two buffers each way, the next piece
  in flight while one is worked on.
-/
module

public import proofs.«01_k».proof.Proof.Lattice.Setup

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v2_scv : Memref Cert.KernelIdeal.sig Kind.scVector Space.hbm Cert.KernelIdeal.S2097152 EltTy.f32)
local notation "oV" => (Memref.whole Cert.KernelIdeal.main_v3_scv : Memref Cert.KernelIdeal.sig Kind.scVector Space.hbm Cert.KernelIdeal.S2097152 EltTy.f32)
local notation "b0" => (Memref.whole Cert.KernelIdeal.cc0_scratch0 : Memref Cert.KernelIdeal.sig Kind.scVector Space.vmem Cert.KernelIdeal.S16384 EltTy.f32)
local notation "b1" => (Memref.whole Cert.KernelIdeal.cc0_scratch1 : Memref Cert.KernelIdeal.sig Kind.scVector Space.vmem Cert.KernelIdeal.S16384 EltTy.f32)
local notation "b2" => (Memref.whole Cert.KernelIdeal.cc0_scratch2 : Memref Cert.KernelIdeal.sig Kind.scVector Space.vmem Cert.KernelIdeal.S16384 EltTy.f32)
local notation "b3" => (Memref.whole Cert.KernelIdeal.cc0_scratch3 : Memref Cert.KernelIdeal.sig Kind.scVector Space.vmem Cert.KernelIdeal.S16384 EltTy.f32)

section Task

variable (d : Dev nD) (L : grid0.Coords)

/-! ## The pieces -/

/-- Piece `r` of the tile's part of the flat array. -/
abbrev chunk (L : grid0.Coords) (r : Fin 4) : Rect S2097152 :=
  Rect.unit (s := S2097152) (k0_off2 L (BitVec.ofNat 32 (16384 * r.val))) S16384.size (k0_off2_inb L r)

/-- The piece's positions. -/
abbrev chunkSet (L : grid0.Coords) (r : Fin 4) : Finset S2097152.Idx := (chunk L r).set

abbrev x0 (L : grid0.Coords) : Memref sig .scVector .hbm S16384 .f32 := (xV).slice (Rect.unit (s := S2097152) (k0_off1 L) S16384.size (k0_off1_inb L)) (fun _ => rfl)
abbrev x1 (L : grid0.Coords) : Memref sig .scVector .hbm S16384 .f32 := (xV).slice (Rect.unit (s := S2097152) (k0_off2 L 16384#32) S16384.size (k0_off2_inb L 1)) (fun _ => rfl)
abbrev x2 (L : grid0.Coords) : Memref sig .scVector .hbm S16384 .f32 := (xV).slice (Rect.unit (s := S2097152) (k0_off2 L 32768#32) S16384.size (k0_off2_inb L 2)) (fun _ => rfl)
abbrev x3 (L : grid0.Coords) : Memref sig .scVector .hbm S16384 .f32 := (xV).slice (Rect.unit (s := S2097152) (k0_off2 L 49152#32) S16384.size (k0_off2_inb L 3)) (fun _ => rfl)
abbrev o0 (L : grid0.Coords) : Memref sig .scVector .hbm S16384 .f32 := (oV).slice (Rect.unit (s := S2097152) (k0_off2 L 0#32) S16384.size (k0_off2_inb L 0)) (fun _ => rfl)
abbrev o1 (L : grid0.Coords) : Memref sig .scVector .hbm S16384 .f32 := (oV).slice (Rect.unit (s := S2097152) (k0_off2 L 16384#32) S16384.size (k0_off2_inb L 1)) (fun _ => rfl)
abbrev o2 (L : grid0.Coords) : Memref sig .scVector .hbm S16384 .f32 := (oV).slice (Rect.unit (s := S2097152) (k0_off2 L 32768#32) S16384.size (k0_off2_inb L 2)) (fun _ => rfl)
abbrev o3 (L : grid0.Coords) : Memref sig .scVector .hbm S16384 .f32 := (oV).slice (Rect.unit (s := S2097152) (k0_off2 L 49152#32) S16384.size (k0_off2_inb L 3)) (fun _ => rfl)

/-- A piece of the points' array at `f`, a piece of the answer's array at `f`. -/
abbrev xPts (d : Dev nD) (L : grid0.Coords) (r : Fin 4) (f : Buf (Elt F) (xLoc d)) : sProp 𝕄 := xLoc d ↦[chunkSet L r]{fullShare} f
abbrev oPts (d : Dev nD) (L : grid0.Coords) (r : Fin 4) (f : Buf (Elt F) (oLoc d)) : sProp 𝕄 := oLoc d ↦[chunkSet L r]{fullShare} f

theorem pts_x0 (f : Buf (Elt F) (xLoc d)) :
    ((x0 L).view.loc (V d (cV L) (jV L)) ↦[(x0 L).view.set]{fullShare} f : sProp 𝕄) = xPts d L 0 f := by
  have h : k0_off1 L = k0_off2 L (BitVec.ofNat 32 (16384 * (0 : Fin 4).val)) := by rw [k0_off1_eq, k0_off2_eq]; rfl
  have e : (x0 L).view.set = chunkSet L 0 := by
    show ((View.whole (main_v2_scv : Ref sig .scVector)).slice _).set = _
    rw [View.set_slice_whole]
    unfold chunkSet chunk
    congr 1
    simp only [h]
  rw [e]
theorem pts_x1 (f : Buf (Elt F) (xLoc d)) :
    ((x1 L).view.loc (V d (cV L) (jV L)) ↦[(x1 L).view.set]{fullShare} f : sProp 𝕄) = xPts d L 1 f := by
  rw [show (x1 L).view.set = chunkSet L 1 from View.set_slice_whole _ _]
theorem pts_x2 (f : Buf (Elt F) (xLoc d)) :
    ((x2 L).view.loc (V d (cV L) (jV L)) ↦[(x2 L).view.set]{fullShare} f : sProp 𝕄) = xPts d L 2 f := by
  rw [show (x2 L).view.set = chunkSet L 2 from View.set_slice_whole _ _]
theorem pts_x3 (f : Buf (Elt F) (xLoc d)) :
    ((x3 L).view.loc (V d (cV L) (jV L)) ↦[(x3 L).view.set]{fullShare} f : sProp 𝕄) = xPts d L 3 f := by
  rw [show (x3 L).view.set = chunkSet L 3 from View.set_slice_whole _ _]
theorem pts_o0 (f : Buf (Elt F) (oLoc d)) :
    ((o0 L).view.loc (V d (cV L) (jV L)) ↦[(o0 L).view.set]{fullShare} f : sProp 𝕄) = oPts d L 0 f := by
  rw [show (o0 L).view.set = chunkSet L 0 from View.set_slice_whole _ _]
theorem pts_o1 (f : Buf (Elt F) (oLoc d)) :
    ((o1 L).view.loc (V d (cV L) (jV L)) ↦[(o1 L).view.set]{fullShare} f : sProp 𝕄) = oPts d L 1 f := by
  rw [show (o1 L).view.set = chunkSet L 1 from View.set_slice_whole _ _]
theorem pts_o2 (f : Buf (Elt F) (oLoc d)) :
    ((o2 L).view.loc (V d (cV L) (jV L)) ↦[(o2 L).view.set]{fullShare} f : sProp 𝕄) = oPts d L 2 f := by
  rw [show (o2 L).view.set = chunkSet L 2 from View.set_slice_whole _ _]
theorem pts_o3 (f : Buf (Elt F) (oLoc d)) :
    ((o3 L).view.loc (V d (cV L) (jV L)) ↦[(o3 L).view.set]{fullShare} f : sProp 𝕄) = oPts d L 3 f := by
  rw [show (o3 L).view.set = chunkSet L 3 from View.set_slice_whole _ _]

/-! ## The tile's own buffers and semaphores -/

abbrev sem0 : DmaSem sig := ((cc0_scratch4.slice (Rect.unit (s := S4) ![0] S1.size inb_S4_S1_0)).squeeze S_ squeezes_S1_S_).sem
abbrev sem1 : DmaSem sig := ((cc0_scratch4.slice (Rect.unit (s := S4) ![1] S1.size inb_S4_S1_1)).squeeze S_ squeezes_S1_S_).sem
abbrev sem2 : DmaSem sig := ((cc0_scratch4.slice (Rect.unit (s := S4) ![2] S1.size inb_S4_S1_2)).squeeze S_ squeezes_S1_S_).sem
abbrev sem3 : DmaSem sig := ((cc0_scratch4.slice (Rect.unit (s := S4) ![3] S1.size inb_S4_S1_3)).squeeze S_ squeezes_S1_S_).sem

abbrev cell (d : Dev nD) (L : grid0.Coords) (s : DmaSem sig) : GSem nD τ sig := (V d (cV L) (jV L), .dma s)

theorem cell_ne {s s' : DmaSem sig} (h : s ≠ s') : cell d L s ≠ cell d L s' := fun e => h (SemLoc.dma.inj (Prod.mk.inj e).2)

theorem cell_own (s : DmaSem sig) (h : (SemLoc.dma s : SemLoc sig).isScoped .scVector = true) : cell d L s ∈ ownCells (V d (cV L) (jV L)) :=
  mem_ownCells.mpr ⟨rfl, h⟩

/-- The tile's four semaphores, each at zero, and the rest. -/
theorem ownSems0_V :
    (ownSems0 (V d (cV L) (jV L)) : sProp 𝕄)
      = iprop(semVal (cell d L sem0) 0 ∗ semVal (cell d L sem1) 0 ∗ semVal (cell d L sem2) 0 ∗ semVal (cell d L sem3) 0
          ∗ bigSep (((((ownCells (V d (cV L) (jV L))).erase (cell d L sem0)).erase (cell d L sem1)).erase (cell d L sem2)).erase (cell d L sem3))
              fun g => semVal g 0) := by
  have h01 : sem0 ≠ sem1 := by decide
  have h02 : sem0 ≠ sem2 := by decide
  have h03 : sem0 ≠ sem3 := by decide
  have h12 : sem1 ≠ sem2 := by decide
  have h13 : sem1 ≠ sem3 := by decide
  have h23 : sem2 ≠ sem3 := by decide
  unfold SparseCore.Cfg.ownSems0
  rw [SparseCore.bigSep_erase' (cell_own d L sem0 (by decide)),
    SparseCore.bigSep_erase' (Finset.mem_erase.mpr ⟨cell_ne d L h01.symm, cell_own d L sem1 (by decide)⟩),
    SparseCore.bigSep_erase' (Finset.mem_erase.mpr ⟨cell_ne d L h12.symm, Finset.mem_erase.mpr ⟨cell_ne d L h02.symm, cell_own d L sem2 (by decide)⟩⟩),
    SparseCore.bigSep_erase' (Finset.mem_erase.mpr ⟨cell_ne d L h23.symm, Finset.mem_erase.mpr ⟨cell_ne d L h13.symm,
      Finset.mem_erase.mpr ⟨cell_ne d L h03.symm, cell_own d L sem3 (by decide)⟩⟩⟩)]

abbrev bufRef (L : grid0.Coords) (b : Ref sig .scVector) : DevRef τ sig := (Proc.scVector (cV L) (jV L)).devRef b

theorem buf_ne {b b' : Ref sig .scVector} (h : b ≠ b') : bufRef L b ≠ bufRef L b' := fun e => h (Proc.devRef_injective _ e)

/-- The tile's four buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (bufRef L cc0_scratch0)).erase (bufRef L cc0_scratch1)).erase
              (bufRef L cc0_scratch2)).erase (bufRef L cc0_scratch3)) fun b => iprop(∃ f, ((d, b) : Loc nD τ sig) ↦{fullShare} f)) := by
  have h01 : (cc0_scratch0 : Ref sig .scVector) ≠ cc0_scratch1 := by decide
  have h02 : (cc0_scratch0 : Ref sig .scVector) ≠ cc0_scratch2 := by decide
  have h03 : (cc0_scratch0 : Ref sig .scVector) ≠ cc0_scratch3 := by decide
  have h12 : (cc0_scratch1 : Ref sig .scVector) ≠ cc0_scratch2 := by decide
  have h13 : (cc0_scratch1 : Ref sig .scVector) ≠ cc0_scratch3 := by decide
  have h23 : (cc0_scratch2 : Ref sig .scVector) ≠ cc0_scratch3 := by decide
  have own : ∀ b : Ref sig .scVector, (bufRef L b).owner = .proc (.scVector (cV L) (jV L)) → bufRef L b ∈ ownRefs (τ := τ) (.scVector (cV L) (jV L)) :=
    fun b h => SparseCore.Cfg.mem_ownRefs_of_owner (p := Proc.scVector (cV L) (jV L)) h
  unfold SparseCore.Cfg.ownBufs
  refine (SparseCore.bigSep_erase' (own cc0_scratch0 rfl)).trans ?_
  rw [SparseCore.bigSep_erase' (Finset.mem_erase.mpr ⟨buf_ne L h01.symm, own cc0_scratch1 rfl⟩),
    SparseCore.bigSep_erase' (Finset.mem_erase.mpr ⟨buf_ne L h12.symm, Finset.mem_erase.mpr ⟨buf_ne L h02.symm, own cc0_scratch2 rfl⟩⟩),
    SparseCore.bigSep_erase' (Finset.mem_erase.mpr ⟨buf_ne L h23.symm, Finset.mem_erase.mpr ⟨buf_ne L h13.symm,
      Finset.mem_erase.mpr ⟨buf_ne L h03.symm, own cc0_scratch3 rfl⟩⟩⟩)]

end Task

end Cert.Proof.Lattice

end
-- ==== Proof.Lattice.Task.lean ====
/-
  One tile's task: four pieces of the points' array in, four pieces of answers out, two buffers each way, the next piece
  in flight while one is worked on.
-/
module

public import proofs.«01_k».proof.Proof.Lattice.Trip
public import proofs.«01_k».proof.Proof.Lattice.Pieces

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S2097152 EltTy.f32)
local notation "oV" => (Memref.whole Cert.KernelIdeal.main_v3_scv : Memref Cert.KernelIdeal.sig Kind.scVector Space.hbm Cert.KernelIdeal.S2097152 EltTy.f32)
local notation "b0" => (Memref.whole Cert.KernelIdeal.cc0_scratch0 : Memref Cert.KernelIdeal.sig Kind.scVector Space.vmem Cert.KernelIdeal.S16384 EltTy.f32)
local notation "b1" => (Memref.whole Cert.KernelIdeal.cc0_scratch1 : Memref Cert.KernelIdeal.sig Kind.scVector Space.vmem Cert.KernelIdeal.S16384 EltTy.f32)
local notation "b2" => (Memref.whole Cert.KernelIdeal.cc0_scratch2 : Memref Cert.KernelIdeal.sig Kind.scVector Space.vmem Cert.KernelIdeal.S16384 EltTy.f32)
local notation "b3" => (Memref.whole Cert.KernelIdeal.cc0_scratch3 : Memref Cert.KernelIdeal.sig Kind.scVector Space.vmem Cert.KernelIdeal.S16384 EltTy.f32)

section Task

variable (d : Dev nD) (L : grid0.Coords)

/-- Before the first trip nothing is claimed of the target. -/
theorem inv_zero (src dst : Memref sig .scVector .vmem S16384 .f32) (fs : Buf (Elt F) (src.view.loc (V d (cV L) (jV L))))
    (f : Buf (Elt F) (dst.view.loc (V d (cV L) (jV L)))) :
    iprop((src.view.loc (V d (cV L) (jV L)) ↦{fullShare} fs) ∗ (dst.view.loc (V d (cV L) (jV L)) ↦{fullShare} f))
      ⊢ (Inv d L src dst fs 0 ⟨⟩ : sProp 𝕄) := by
  unfold Inv
  iintro ⟨Hs, Hd⟩
  isplitl [Hs]; · iexact Hs
  iexists f
  isplitr; · ipureintro; intro y h; exact absurd h (Nat.not_lt_zero _)
  iexact Hd

/-- After the last trip every answer is there. -/
theorem inv_end (src dst : Memref sig .scVector .vmem S16384 .f32) (fs : Buf (Elt F) (src.view.loc (V d (cV L) (jV L)))) (n : ℕ) (hn : n = 512) (u : PUnit) :
    (Inv d L src dst fs n u : sProp 𝕄)
      ⊢ iprop((src.view.loc (V d (cV L) (jV L)) ↦{fullShare} fs) ∗ ∃ f : Buf (Elt F) (dst.view.loc (V d (cV L) (jV L))),
          ⌜∀ y : S16384.Idx, dst.view.read (Elt F) f y = answer (src.view.read (Elt F) fs) y⌝ ∗ (dst.view.loc (V d (cV L) (jV L)) ↦{fullShare} f)) := by
  subst hn
  unfold Inv
  iintro ⟨Hs, %f, %hf, Hd⟩
  isplitl [Hs]; · iexact Hs
  iexists f
  isplitr; · ipureintro; intro y; have hy : (y 0).val < 16384 := (y 0).isLt; exact hf y (by unfold Done; omega)
  iexact Hd

/-- A piece answered whole, at the place it was read from, is a piece of the answers. -/
theorem landed (off : Fin 1 → ℕ) (inb : ∀ a, off a + S16384.size a ≤ S2097152.size a) (o : ℕ) (ho : off = ![o]) (h256 : o % 256 = 0)
    (h : ∀ a, (Rect.unit (s := S2097152) off S16384.size inb).stride a = 1) (X : S2097152.Idx → F .f32) (f : S2097152.Idx → F .f32)
    (w : S16384.Idx → F .f32) (hw : ∀ y, w y = answer (n := 16384) (fun z => X ((Rect.unit (s := S2097152) off S16384.size inb).emb z)) y) :
    ∀ i ∈ (Rect.unit (s := S2097152) off S16384.size inb).set,
      (((oV).slice (Rect.unit (s := S2097152) off S16384.size inb) h).view.writes (Elt F) f [⟨Rect.whole S16384, w⟩] : S2097152.Idx → F .f32) i
        = answer (n := 2097152) X i := by
  intro i hi
  obtain ⟨y, rfl⟩ := (Rect.unit (s := S2097152) off S16384.size inb).exists_idx_of_mem hi
  have key := congrFun (View.read_writes_whole (Val := Elt F) ((oV).slice (Rect.unit (s := S2097152) off S16384.size inb) h).view f w) y
  have tail := answer_piece (n := 2097152) (n' := 16384) X (Rect.unit (s := S2097152) off S16384.size inb).emb o h256 (by norm_num)
      (fun z => by rw [Rect.emb_apply]; show off 0 + 1 * (z 0).val = _; rw [ho]; show o + 1 * (z 0).val = _; omega) y
  have mid := hw y
  rw [View.read_apply] at key
  have c : ∀ (p : Elt F .f32 = Elt F .f32) (u : Elt F .f32), cast p u = u := fun _ _ => rfl
  refine Eq.trans ?_ (key.trans (mid.trans tail))
  exact (c _ _).symm

/-- The first piece, read at its own offset, is the piece the first answers are sent to. -/
theorem first_off (X : S2097152.Idx → F .f32) (z : S16384.Idx) :
    X ((Rect.unit (s := S2097152) (k0_off1 L) S16384.size (k0_off1_inb L)).emb z)
      = X ((Rect.unit (s := S2097152) (k0_off2 L 0#32) S16384.size (k0_off2_inb L 0)).emb z) := by
  have h : k0_off1 L = k0_off2 L 0#32 := by rw [k0_off1_eq]; exact (k0_off2_eq L 0).symm
  refine congrArg X (funext fun a => Fin.ext ?_)
  show k0_off1 L a + 1 * (z a).val = k0_off2 L 0#32 a + 1 * (z a).val
  rw [h]

/-- The kernel's body on tile `L`: from the tile's four pieces of points at `X`, its four pieces of the answer's array come
    back at the answers. -/
theorem task (hF : (K (F := F)).Facts) (X : Buf (Elt F) (xLoc d)) (O₀ : Buf (Elt F) (oLoc d)) (O : CellTallies nD τ sig (HIx 1))
    (W : Waits sig (HIx 1)) (hO : ∀ g, O g none = 0) :
    iprop(levAts (K (F := F)).L (K (F := F)).lev ∗ emp
        ∗ ((xPts d L 0 X ∗ xPts d L 1 X ∗ xPts d L 2 X ∗ xPts d L 3 X) ∗ (oPts d L 0 O₀ ∗ oPts d L 1 O₀ ∗ oPts d L 2 O₀ ∗ oPts d L 3 O₀))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) b0 (Memref.isWhole_whole _) b1 (Memref.isWhole_whole _)
            b2 (Memref.isWhole_whole _) b3 (Memref.isWhole_whole _) cc0_scratch4)
          fun _ => iprop(((xPts d L 0 X ∗ xPts d L 1 X ∗ xPts d L 2 X ∗ xPts d L 3 X)
              ∗ (oPts d L 0 (answer X) ∗ oPts d L 1 (answer X) ∗ oPts d L 2 (answer X) ∗ oPts d L 3 (answer X)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hx0, Hx1, Hx2, Hx3⟩, ⟨Ho0, Ho1, Ho2, Ho3⟩⟩, ⟨⟨%f0, Hb0⟩, ⟨%f1, Hb1⟩, ⟨%f2, Hb2⟩, ⟨%f3, Hb3⟩, Hbufs⟩, ⟨Hs0, Hs1, Hs2, Hs3, Hsems⟩, HO⟩
  -- the waits' evidence: everything the tile owes lies above its own semaphores
  ihave Hmw := (show levAts (K (F := F)).L (K (F := F)).lev ⊢ Transfers.MayWaits (V d (cV L) (jV L)) (default : HIx 1) O from
    (K (F := F)).mayWaits_none (thr := V d (cV L) (jV L)) hO) $$ Hlv
  -- the pieces in the body's spelling
  ihave Hx0' := (Entails.of_eq (pts_x0 (F := F) d L _).symm) $$ Hx0
  ihave Hx1' := (Entails.of_eq (pts_x1 (F := F) d L _).symm) $$ Hx1
  ihave Hx2' := (Entails.of_eq (pts_x2 (F := F) d L _).symm) $$ Hx2
  ihave Hx3' := (Entails.of_eq (pts_x3 (F := F) d L _).symm) $$ Hx3
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  ihave Hb0' := (show ((V d (cV L) (jV L)).loc cc0_scratch0 ↦{fullShare} f0 : sProp 𝕄) ⊢ ((b0).view.loc (V d (cV L) (jV L)) ↦{fullShare} f0) from BI.Entails.refl _) $$ Hb0
  ihave Hb1' := (show ((V d (cV L) (jV L)).loc cc0_scratch1 ↦{fullShare} f1 : sProp 𝕄) ⊢ ((b1).view.loc (V d (cV L) (jV L)) ↦{fullShare} f1) from BI.Entails.refl _) $$ Hb1
  ihave Hb2' := (show ((V d (cV L) (jV L)).loc cc0_scratch2 ↦{fullShare} f2 : sProp 𝕄) ⊢ ((b2).view.loc (V d (cV L) (jV L)) ↦{fullShare} f2) from BI.Entails.refl _) $$ Hb2
  ihave Hb3' := (show ((V d (cV L) (jV L)).loc cc0_scratch3 ↦{fullShare} f3 : sProp 𝕄) ⊢ ((b3).view.loc (V d (cV L) (jV L)) ↦{fullShare} f3) from BI.Entails.refl _) $$ Hb3
  sl_unfold [cc0__sc_body, k0_part5]
  sl_exec (disch := exact View.amount_pos _ _ (show 0 < S16384.numel by decide))
  sl_for (Inv d L b0 b2 (View.write (Elt F) (b0).view f0 (task.sl.dma0 d L X) Finset.univ)) $$ [Hb0' Hb2']
  case region => intro k _; exact trip d L xV oV (Memref.isWhole_whole _) (Memref.isWhole_whole _) b0 b1 b2 b3 (Memref.isWhole_whole _) (Memref.isWhole_whole _) (Memref.isWhole_whole _) (Memref.isWhole_whole _) cc0_scratch4 _ k
  · ihave HI := (inv_zero (F := F) d L b0 b2 _ _) $$ [Hb0' Hb2']
    · isplitl [Hb0']
      · iexact Hb0'
      · iexact Hb2'
    iexact HI
  iintro %_ HI
  ihave HI' := (inv_end (F := F) d L _ _ _ (Scf.trips k0_t1_loop.lb k0_t1_loop.ub k0_t1_loop.st) (by decide) _) $$ HI
  icases HI' with ⟨Hb0', %g0, %hg0, Hb2'⟩
  sl_exec (disch := exact View.amount_pos _ _ (show 0 < S16384.numel by decide))
  sl_for (Inv d L b1 b3 (View.write (Elt F) (b1).view f1 (task.sl.dma0_1 d L X) Finset.univ)) $$ [Hb1' Hb3']
  case region => intro k _; exact trip d L xV oV (Memref.isWhole_whole _) (Memref.isWhole_whole _) b1 b0 b3 b2 (Memref.isWhole_whole _) (Memref.isWhole_whole _) (Memref.isWhole_whole _) (Memref.isWhole_whole _) cc0_scratch4 _ k
  · ihave HI := (inv_zero (F := F) d L b1 b3 _ _) $$ [Hb1' Hb3']
    · isplitl [Hb1']
      · iexact Hb1'
      · iexact Hb3'
    iexact HI
  iintro %_ HI
  ihave HI' := (inv_end (F := F) d L _ _ _ (Scf.trips k0_t2_loop.lb k0_t2_loop.ub k0_t2_loop.st) (by decide) _) $$ HI
  icases HI' with ⟨Hb1', %g1, %hg1, Hb3'⟩
  sl_exec (disch := exact View.amount_pos _ _ (show 0 < S16384.numel by decide))
  sl_for (Inv d L b0 b2 (View.write (Elt F) (b0).view (View.write (Elt F) (b0).view f0 (task.sl.dma0 d L X) Finset.univ) (task.sl.dma0_3 d L X) Finset.univ)) $$ [Hb0' Hb2']
  case region => intro k _; exact trip d L xV oV (Memref.isWhole_whole _) (Memref.isWhole_whole _) b0 b1 b2 b3 (Memref.isWhole_whole _) (Memref.isWhole_whole _) (Memref.isWhole_whole _) (Memref.isWhole_whole _) cc0_scratch4 _ k
  · ihave HI := (inv_zero (F := F) d L b0 b2 _ _) $$ [Hb0' Hb2']
    · isplitl [Hb0']
      · iexact Hb0'
      · iexact Hb2'
    iexact HI
  iintro %_ HI
  ihave HI' := (inv_end (F := F) d L _ _ _ (Scf.trips k0_t3_loop.lb k0_t3_loop.ub k0_t3_loop.st) (by decide) _) $$ HI
  icases HI' with ⟨Hb0', %g2, %hg2, Hb2'⟩
  sl_exec (disch := exact View.amount_pos _ _ (show 0 < S16384.numel by decide))
  sl_for (Inv d L b1 b3 (View.write (Elt F) (b1).view (View.write (Elt F) (b1).view f1 (task.sl.dma0_1 d L X) Finset.univ) (task.sl.dma0_5 d L X) Finset.univ)) $$ [Hb1' Hb3']
  case region => intro k _; exact trip d L xV oV (Memref.isWhole_whole _) (Memref.isWhole_whole _) b1 b0 b3 b2 (Memref.isWhole_whole _) (Memref.isWhole_whole _) (Memref.isWhole_whole _) (Memref.isWhole_whole _) cc0_scratch4 _ k
  · ihave HI := (inv_zero (F := F) d L b1 b3 _ _) $$ [Hb1' Hb3']
    · isplitl [Hb1']
      · iexact Hb1'
      · iexact Hb3'
    iexact HI
  iintro %_ HI
  ihave HI' := (inv_end (F := F) d L _ _ _ (Scf.trips k0_t4_loop.lb k0_t4_loop.ub k0_t4_loop.st) (by decide) _) $$ HI
  icases HI' with ⟨Hb1', %g3, %hg3, Hb3'⟩
  sl_exec (disch := exact View.amount_pos _ _ (show 0 < S16384.numel by decide))
  sl_step
  ihave Hx0 := (Entails.of_eq (pts_x0 (F := F) d L X)) $$ Hx0'
  ihave Hx1 := (Entails.of_eq (pts_x1 (F := F) d L X)) $$ Hx1'
  ihave Hx2 := (Entails.of_eq (pts_x2 (F := F) d L X)) $$ Hx2'
  ihave Hx3 := (Entails.of_eq (pts_x3 (F := F) d L X)) $$ Hx3'
  have w0 : ∀ y, task.sl.dma0_2 d L g0 y = answer (n := 16384) (fun z => X ((Rect.unit (s := S2097152) (k0_off2 L 0#32) S16384.size (k0_off2_inb L 0)).emb z)) y :=
    fun y => (hg0 y).trans (by rw [View.read_write_univ]; exact congrArg (fun u => answer (n := 16384) u y) (funext (first_off L X)))
  have w1 : ∀ y, task.sl.dma0_4 d L g1 y = answer (n := 16384) (fun z => X ((Rect.unit (s := S2097152) (k0_off2 L 16384#32) S16384.size (k0_off2_inb L 1)).emb z)) y :=
    fun y => (hg1 y).trans (by rw [View.read_write_univ]; rfl)
  have w2 : ∀ y, task.sl.dma0_6 d L g2 y = answer (n := 16384) (fun z => X ((Rect.unit (s := S2097152) (k0_off2 L 32768#32) S16384.size (k0_off2_inb L 2)).emb z)) y :=
    fun y => (hg2 y).trans (by rw [View.read_write_univ]; rfl)
  have w3 : ∀ y, task.sl.dma0_7 d L g3 y = answer (n := 16384) (fun z => X ((Rect.unit (s := S2097152) (k0_off2 L 49152#32) S16384.size (k0_off2_inb L 3)).emb z)) y :=
    fun y => (hg3 y).trans (by rw [View.read_write_univ]; rfl)
  ihave Ho0 := (Entails.of_eq ((pts_o0 (F := F) d L _).trans (pointsTo_congr (landed _ _ _ (k0_off2_eq L 0) (by omega) (fun _ => rfl) X _ _ w0)))) $$ Ho0'
  ihave Ho1 := (Entails.of_eq ((pts_o1 (F := F) d L _).trans (pointsTo_congr (landed _ _ _ (k0_off2_eq L 1) (by omega) (fun _ => rfl) X _ _ w1)))) $$ Ho1'
  ihave Ho2 := (Entails.of_eq ((pts_o2 (F := F) d L _).trans (pointsTo_congr (landed _ _ _ (k0_off2_eq L 2) (by omega) (fun _ => rfl) X _ _ w2)))) $$ Ho2'
  ihave Ho3 := (Entails.of_eq ((pts_o3 (F := F) d L _).trans (pointsTo_congr (landed _ _ _ (k0_off2_eq L 3) (by omega) (fun _ => rfl) X _ _ w3)))) $$ Ho3'
  isplitl [Hx0 Hx1 Hx2 Hx3 Ho0 Ho1 Ho2 Ho3]
  · isplitl [Hx0 Hx1 Hx2 Hx3]
    · isplitl [Hx0]; · iexact Hx0
      isplitl [Hx1]; · iexact Hx1
      isplitl [Hx2]; · iexact Hx2
      iexact Hx3
    isplitl [Ho0]; · iexact Ho0
    isplitl [Ho1]; · iexact Ho1
    isplitl [Ho2]; · iexact Ho2
    iexact Ho3
  isplitl [Hb0' Hb1' Hb2' Hb3' Hbufs]
  · isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _
  isplitr
  swap; · iexact HO
  ipureintro
  intro p _
  rcases p.2 with _ | q
  · exact .inr (.inl rfl)
  · exact .inr (.inr (congrArg some (Subsingleton.elim q 0)))

end Task

end Cert.Proof.Lattice

end
-- ==== Proof.Lattice.Split.lean ====
/-
  The flat array is its pieces: 2 SparseCores × 16 tiles × 4 pieces of 16384 elements, disjoint and covering.
-/
module

public import proofs.«01_k».proof.Proof.Lattice.Pieces

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A piece's name: its SparseCore, its tile, its number within the tile. -/
abbrev Name : Type := Fin 2 × Fin 16 × Fin 4

/-- The piece's first position. -/
def first (n : Name) : ℕ := 1048576 * n.1.val + 65536 * n.2.1.val + 16384 * n.2.2.val

/-- The tile of SparseCore `c` and number `s`. -/
abbrev tile (c : Fin 2) (s : Fin 16) : grid0.Coords := coordsV c s

/-- The piece's positions are the 16384 from its first. -/
theorem mem_chunkSet (n : Name) (y : S2097152.Idx) :
    y ∈ chunkSet (tile n.1 n.2.1) n.2.2 ↔ first n ≤ (y 0).val ∧ (y 0).val < first n + 16384 := by
  unfold chunkSet chunk
  rw [Rect.mem_set_unit]
  have hoff : k0_off2 (tile n.1 n.2.1) (BitVec.ofNat 32 (16384 * n.2.2.val)) 0 = first n := by
    rw [k0_off2_eq]; rfl
  constructor
  · intro h
    have := h 0
    rw [hoff] at this
    exact this
  · intro h a
    match a with
    | ⟨0, _⟩ => exact (congrArg (fun t => t ≤ (y 0).val ∧ (y 0).val < t + 16384) hoff).mpr h

theorem chunks_disjoint : ∀ n ∈ (Finset.univ : Finset Name), ∀ n' ∈ (Finset.univ : Finset Name), n ≠ n' →
    Disjoint (chunkSet (tile n.1 n.2.1) n.2.2) (chunkSet (tile n'.1 n'.2.1) n'.2.2) := by
  intro n _ n' _ hne
  refine Finset.disjoint_left.mpr fun y h h' => hne ?_
  rw [mem_chunkSet] at h h'
  obtain ⟨c, s, r⟩ := n
  obtain ⟨c', s', r'⟩ := n'
  have := c.isLt; have := s.isLt; have := r.isLt
  have := c'.isLt; have := s'.isLt; have := r'.isLt
  simp only [first] at h h'
  have hc : c = c' := Fin.ext (by omega)
  have hs : s = s' := Fin.ext (by omega)
  have hr : r = r' := Fin.ext (by omega)
  rw [hc, hs, hr]

theorem chunks_cover : ((Finset.univ : Finset Name).biUnion fun n => chunkSet (tile n.1 n.2.1) n.2.2) = Finset.univ := by
  refine Finset.eq_univ_of_forall fun y => Finset.mem_biUnion.mpr ?_
  have hy : (y 0).val < 2097152 := (y 0).isLt
  refine ⟨(⟨(y 0).val / 1048576, by omega⟩, ⟨(y 0).val % 1048576 / 65536, by omega⟩, ⟨(y 0).val % 65536 / 16384, by omega⟩),
    Finset.mem_univ _, (mem_chunkSet _ _).mpr ?_⟩
  simp only [first]
  omega

/-- What one tile is handed of the points' array, and of the answer's. -/
abbrev xTile (d : Dev nD) (L : grid0.Coords) (f : Buf (Elt F) (xLoc d)) : sProp 𝕄 :=
  iprop(xPts d L 0 f ∗ xPts d L 1 f ∗ xPts d L 2 f ∗ xPts d L 3 f)
abbrev oTile (d : Dev nD) (L : grid0.Coords) (f : Buf (Elt F) (oLoc d)) : sProp 𝕄 :=
  iprop(oPts d L 0 f ∗ oPts d L 1 f ∗ oPts d L 2 f ∗ oPts d L 3 f)

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem x_tiles (d : Dev nD) (f : Buf (Elt F) (xLoc d)) :
    (xLoc d ↦{fullShare} f : sProp 𝕄) = bigSep Finset.univ fun c : Fin 2 => bigSep Finset.univ fun s : Fin 16 => xTile d (tile c s) f := by
  have h := pointsTo_biUnion (ℓ := xLoc d) (q := fullShare) (f := f) (Val := Elt F) (Ix := HIx 1) (Name := ℕ) (U := UU) (Lvl := ℕ)
    (Finset.univ : Finset Name) (fun n => chunkSet (tile n.1 n.2.1) n.2.2) chunks_disjoint
  rw [chunks_cover] at h
  refine h.trans ?_
  rw [bigSep_univ_prod]
  refine bigSep_congr fun c _ => ?_
  rw [bigSep_univ_prod]
  exact bigSep_congr fun s _ => four _

theorem o_tiles (d : Dev nD) (f : Buf (Elt F) (oLoc d)) :
    (oLoc d ↦{fullShare} f : sProp 𝕄) = bigSep Finset.univ fun c : Fin 2 => bigSep Finset.univ fun s : Fin 16 => oTile d (tile c s) f := by
  have h := pointsTo_biUnion (ℓ := oLoc d) (q := fullShare) (f := f) (Val := Elt F) (Ix := HIx 1) (Name := ℕ) (U := UU) (Lvl := ℕ)
    (Finset.univ : Finset Name) (fun n => chunkSet (tile n.1 n.2.1) n.2.2) chunks_disjoint
  rw [chunks_cover] at h
  refine h.trans ?_
  rw [bigSep_univ_prod]
  refine bigSep_congr fun c _ => ?_
  rw [bigSep_univ_prod]
  exact bigSep_congr fun s _ => four _

end Cert.Proof.Lattice

end
-- ==== Proof.Lattice.Launch.lean ====
/-
  The whole program: the points laid out flat, every tile's task run once, the answers laid back.

  `flat` is the host's way in (128 first coordinates, then 128 second coordinates, and so on), `unflat` its way out; what the
  program leaves is `unflat (answer (flat x))`, over any float values.
-/
module

public import proofs.«01_k».proof.Proof.Lattice.Task
public import proofs.«01_k».proof.Proof.Lattice.Split
public import Idealize.ShloMosaic.Lib.Pipeline.Frame

@[expose] public section

noncomputable section

namespace Cert.Proof.Lattice

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The layouts -/

/-- The points laid out flat. -/
def flat (x : S1048576x2.Idx → F .f32) : S2097152.Idx → F .f32 :=
  shapeCast S2097152 (transpose S8192x2x128 [0, 2, 1] (shapeCast S8192x128x2 x shapeCasts_S1048576x2_S8192x128x2) transposes_S8192x128x2_S8192x2x128_0_2_1)
    shapeCasts_S8192x2x128_S2097152

/-- A flat array laid back as points. -/
def unflat (y : S2097152.Idx → F .f32) : S1048576x2.Idx → F .f32 :=
  shapeCast S1048576x2 (transpose S8192x128x2 [0, 2, 1] (shapeCast S8192x2x128 y shapeCasts_S2097152_S8192x2x128) transposes_S8192x2x128_S8192x128x2_0_2_1)
    shapeCasts_S8192x128x2_S1048576x2

variable (m : (ℓ : Loc nD τ sig) → Buf (Elt F) ℓ) (ρ : Dev nD → PrngReg)

/-- The program's argument and its result, on device `d`. -/
abbrev aLoc (d : Dev nD) : Loc nD τ sig := (SparseCore.T d).loc main_arg0
abbrev rLoc (d : Dev nD) : Loc nD τ sig := (SparseCore.T d).loc main_v6

/-- What the call reads, and what it leaves. -/
def given (d : Dev nD) : Buf (Elt F) (xLoc d) := flat (m (aLoc d))
def left (d : Dev nD) : Buf (Elt F) (oLoc d) := answer (n := 2097152) (flat (m (aLoc d)))

/-! ## What the calls hand on -/

abbrev tileGo (d : Dev nD) (L : grid0.Coords) : sProp 𝕄 := iprop(xTile d L (given m d) ∗ oTile d L (m (oLoc d)))
abbrev tileDone (d : Dev nD) (L : grid0.Coords) : sProp 𝕄 := iprop(xTile d L (given m d) ∗ oTile d L (left m d))
abbrev coreGo (d : Dev nD) (c : Fin 2) : sProp 𝕄 := bigSep Finset.univ fun s : Fin 16 => tileGo m d (tile c s)
abbrev coreDone (d : Dev nD) (c : Fin 2) : sProp 𝕄 := bigSep Finset.univ fun s : Fin 16 => tileDone m d (tile c s)

def P : (K (F := F)).Pay (nD := nD) (Val := Elt F) (Name := ℕ) (U := UU) where
  st := fun q d c => match q with | 0 => coreGo m d c
  dn := fun q d c => match q with | 0 => coreDone m d c
  go := fun q d c i => match q with | 0 => tileGo m d (tile c i)
  td := fun q d c i => match q with | 0 => tileDone m d (tile c i)
  x := fun _ _ => iprop(emp)

instance P_storable : (P (F := F) m).IsStorable where
  st q d c := match q with
    | 0 => (inferInstance : BI.Storable (upEmb : UEmb _ 𝕄) (coreGo m d c))
  dn q d c := match q with
    | 0 => (inferInstance : BI.Storable (upEmb : UEmb _ 𝕄) (coreDone m d c))
  go q d c i := match q with
    | 0 => (inferInstance : BI.Storable (upEmb : UEmb _ 𝕄) (tileGo m d (tile c i)))
  td q d c i := match q with
    | 0 => (inferInstance : BI.Storable (upEmb : UEmb _ 𝕄) (tileDone m d (tile c i)))

theorem defs₀_vector (c : Fin τ.nSC) (s : Fin τ.nSub) :
    defs₀ (F := F) (.scVector c s) 0 ()
      = SparseCore.onTile hcore0 hsub0 (fun c s => cc0__sc_body (coordsV c s) (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4) ⟨⟩ c s := rfl

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task d (coordsV ⟨_, hci.1⟩ ⟨_, hci.2⟩) hF (given m d) (m (oLoc d)) O W hO

theorem vecSplit : (K (F := F)).VecSplit' (P m) 0 := by
  intro d c
  show coreGo m d c ⊢ |={Set.univ}=> iprop(coreGo m d c ∗ (coreDone m d c -∗ coreDone m d c))
  iintro H; imodintro
  isplitl [H]; · iexact H
  iintro H; iexact H

/-! ## The launch's element: the handshakes' rounds, nothing of the kernel's own -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The host's program -/

abbrev b' (b : Ref sig .tc) : DevRef τ sig := Proc.devRef .tc b

abbrev in₁ : HloOp τ sig (Elt F) := StableHlo.reshape main_arg0 main_v0 (rfl : (.f32 : EltTy) = .f32) shapeCasts_S1048576x2_S8192x128x2
abbrev in₂ : HloOp τ sig (Elt F) := StableHlo.unary main_v0 main_v1 ((transpose S8192x2x128 [0, 2, 1] · transposes_S8192x128x2_S8192x2x128_0_2_1) : (⟨S8192x128x2, .f32⟩ : BufTy).Contents (Elt F) → (⟨S8192x2x128, .f32⟩ : BufTy).Contents (Elt F))
abbrev in₃ : HloOp τ sig (Elt F) := StableHlo.reshape main_v1 main_v2 (rfl : (.f32 : EltTy) = .f32) shapeCasts_S8192x2x128_S2097152
abbrev out₁ : HloOp τ sig (Elt F) := StableHlo.reshape main_v3 main_v4 (rfl : (.f32 : EltTy) = .f32) shapeCasts_S2097152_S8192x2x128
abbrev out₂ : HloOp τ sig (Elt F) := StableHlo.unary main_v4 main_v5 ((transpose S8192x128x2 [0, 2, 1] · transposes_S8192x2x128_S8192x128x2_0_2_1) : (⟨S8192x2x128, .f32⟩ : BufTy).Contents (Elt F) → (⟨S8192x128x2, .f32⟩ : BufTy).Contents (Elt F))
abbrev out₃ : HloOp τ sig (Elt F) := StableHlo.reshape main_v5 main_v6 (rfl : (.f32 : EltTy) = .f32) shapeCasts_S8192x128x2_S1048576x2

/-- The host's arrays. -/
abbrev hostBufs : Finset (DevRef τ sig) := {b' main_arg0, b' main_v0, b' main_v1, b' main_v2, b' main_v3, b' main_v4, b' main_v5, b' main_v6}

theorem in₁_bufs : (in₁ (F := F)).bufs ⊆ hostBufs := show ({b' main_arg0, b' main_v0} : Finset (DevRef τ sig)) ⊆ hostBufs by decide
theorem in₂_bufs : (in₂ (F := F)).bufs ⊆ hostBufs := show ({b' main_v0, b' main_v1} : Finset (DevRef τ sig)) ⊆ hostBufs by decide
theorem in₃_bufs : (in₃ (F := F)).bufs ⊆ hostBufs := show ({b' main_v1, b' main_v2} : Finset (DevRef τ sig)) ⊆ hostBufs by decide
theorem out₁_bufs : (out₁ (F := F)).bufs ⊆ hostBufs := show ({b' main_v3, b' main_v4} : Finset (DevRef τ sig)) ⊆ hostBufs by decide
theorem out₂_bufs : (out₂ (F := F)).bufs ⊆ hostBufs := show ({b' main_v4, b' main_v5} : Finset (DevRef τ sig)) ⊆ hostBufs by decide
theorem out₃_bufs : (out₃ (F := F)).bufs ⊆ hostBufs := show ({b' main_v5, b' main_v6} : Finset (DevRef τ sig)) ⊆ hostBufs by decide

omit [FloatOps F] in
theorem held_hostBufs (d : Dev nD) (W : Valuation τ sig (Elt F)) :
    (held (SparseCore.T d) hostBufs W : sProp 𝕄)
      = iprop(((SparseCore.T d).loc main_arg0 ↦{fullShare} W (b' main_arg0)) ∗ ((SparseCore.T d).loc main_v0 ↦{fullShare} W (b' main_v0)) ∗ ((SparseCore.T d).loc main_v1 ↦{fullShare} W (b' main_v1))
        ∗ (xLoc d ↦{fullShare} W (b' main_v2)) ∗ (oLoc d ↦{fullShare} W (b' main_v3)) ∗ ((SparseCore.T d).loc main_v4 ↦{fullShare} W (b' main_v4))
        ∗ ((SparseCore.T d).loc main_v5 ↦{fullShare} W (b' main_v5)) ∗ (SparseCore.T d).loc main_v6 ↦{fullShare} W (b' main_v6)) := by
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch's contents, those at the call, and those after it. -/
def V0 (d : Dev nD) : Valuation τ sig (Elt F) := fun b => m (d, b)
abbrev V3 (d : Dev nD) : Valuation τ sig (Elt F) := (in₃ (F := F)).result ((in₂ (F := F)).result ((in₁ (F := F)).result (V0 m d)))
def V4 (d : Dev nD) : Valuation τ sig (Elt F) := Function.update (V3 m d) (b' main_v3) (left m d)
abbrev V7 (d : Dev nD) : Valuation τ sig (Elt F) := (out₃ (F := F)).result ((out₂ (F := F)).result ((out₁ (F := F)).result (V4 m d)))

theorem unscoped_held (d : Dev nD) : (unscopedBufs d (fun b => m ((SparseCore.T d).loc b)) : sProp 𝕄) = held (SparseCore.T d) hostBufs (V0 m d) := by
  rw [held_hostBufs]
  unfold unscopedBufs
  rw [show (Finset.univ.filter fun b : Ref sig .tc => ¬ b.isScoped) = {main_arg0, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V3_given (d : Dev nD) : V3 m d (b' main_v2) = given m d := by
  unfold V3
  unfold given flat
  simp only [StableHlo.reshape_result', StableHlo.unary_result']
  rfl
theorem V3_out (d : Dev nD) : V3 m d (b' main_v3) = m (oLoc d) := by
  unfold V3
  rw [StableHlo.reshape_result_ne, StableHlo.unary_result_ne, StableHlo.reshape_result_ne]
  · rfl
  all_goals decide
theorem V3_arg (d : Dev nD) : V3 m d (b' main_arg0) = m (aLoc d) := by
  unfold V3
  rw [StableHlo.reshape_result_ne, StableHlo.unary_result_ne, StableHlo.reshape_result_ne]
  · rfl
  all_goals decide
theorem V4_ne (d : Dev nD) (b : Ref sig .tc) (h : b' b ≠ b' main_v3) : V4 m d (b' b) = V3 m d (b' b) := Function.update_of_ne h _ _
theorem V4_out (d : Dev nD) : V4 m d (b' main_v3) = left m d := Function.update_self _ _ _
theorem V7_arg (d : Dev nD) : V7 m d (b' main_arg0) = m (aLoc d) := by
  unfold V7
  rw [StableHlo.reshape_result_ne, StableHlo.unary_result_ne, StableHlo.reshape_result_ne, V4_ne _ _ _ (by decide), V3_arg]
  all_goals decide
theorem V7_res (d : Dev nD) : V7 m d (b' main_v6) = unflat (left m d) := by
  unfold V7
  unfold unflat
  simp only [StableHlo.reshape_result', StableHlo.unary_result', V4_out]
  rfl

theorem st0_eq (d : Dev nD) :
    (bigSep Finset.univ fun c : Fin ((K (F := F)).nCore 0) => (P m).st 0 d c) = iprop((xLoc d ↦{fullShare} given m d) ∗ oLoc d ↦{fullShare} m (oLoc d)) := by
  show (bigSep (Finset.univ : Finset (Fin 2)) fun c => coreGo m d c) = _
  rw [x_tiles, o_tiles, ← bigSep_sep']
  refine bigSep_congr fun c _ => ?_
  rw [← bigSep_sep']
theorem dn0_eq (d : Dev nD) :
    (bigSep Finset.univ fun c : Fin ((K (F := F)).nCore 0) => (P m).dn 0 d c) = iprop((xLoc d ↦{fullShare} given m d) ∗ oLoc d ↦{fullShare} left m d) := by
  show (bigSep (Finset.univ : Finset (Fin 2)) fun c => coreDone m d c) = _
  rw [x_tiles, o_tiles, ← bigSep_sep']
  refine bigSep_congr fun c _ => ?_
  rw [← bigSep_sep']

/-- What the host's program leaves: the argument as it was, the result in its place. -/
abbrev FIN (d : Dev nD) : sProp 𝕄 := iprop((aLoc d ↦{fullShare} m (aLoc d)) ∗ rLoc d ↦{fullShare} unflat (left m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the way in
  iapply (wp_hlo_within 𝒱 (SparseCore.T d) none Set.univ (op := in₁) (S := hostBufs) in₁_bufs (V := V0 m d)) $$ [Hb Hheld]
  · isplitl [Hb] <;> iassumption
  iintro ⟨Hb, Hheld⟩
  rw [wp_ret]; imodintro
  iapply (wp_hlo_within 𝒱 (SparseCore.T d) none Set.univ (op := in₂) (S := hostBufs) in₂_bufs (V := (in₁ (F := F)).result (V0 m d))) $$ [Hb Hheld]
  · isplitl [Hb] <;> iassumption
  iintro ⟨Hb, Hheld⟩
  rw [wp_ret]; imodintro
  iapply (wp_hlo_within 𝒱 (SparseCore.T d) none Set.univ (op := in₃) (S := hostBufs) in₃_bufs (V := (in₂ (F := F)).result ((in₁ (F := F)).result (V0 m d)))) $$ [Hb Hheld]
  · isplitl [Hb] <;> iassumption
  iintro ⟨Hb, Hheld⟩
  rw [wp_ret]; imodintro
  ihave Hh := (Entails.of_eq (held_hostBufs (F := F) d (V3 m d))) $$ Hheld
  icases Hh with ⟨Ha, H0, H1, Hx, Ho, H4, H5, H6⟩
  -- the call
  iapply ((K (F := F)).wp_run (D (F := F)) 𝒱 (EH := EH) (P := P m) κ d 0) $$ [Hst Ha H0 H1 Hx Ho H4 H5 H6 Hb Hts]
  isplitr; · iexact Hctx
  isplitl [Hst]; · iexact Hst
  isplitl [Hx Ho]
  · rw [st0_eq, V3_given, V3_out]
    isplitl [Hx] <;> iassumption
  iintro ⟨Hst, Hdn⟩
  ihave Hdn' := (Entails.of_eq (dn0_eq m d)) $$ Hdn
  icases Hdn' with ⟨Hx, Ho⟩
  -- the way out
  iapply (wp_hlo_within 𝒱 (SparseCore.T d) none Set.univ (op := out₁) (S := hostBufs) out₁_bufs (V := V4 m d)) $$ [Ha H0 H1 Hx Ho H4 H5 H6 Hb]
  · isplitl [Hb]; · iexact Hb
    rw [held_hostBufs, V4_out, V4_ne _ _ main_arg0 (by decide), V4_ne _ _ main_v0 (by decide), V4_ne _ _ main_v1 (by decide), V4_ne _ _ main_v2 (by decide),
      V4_ne _ _ main_v4 (by decide), V4_ne _ _ main_v5 (by decide), V4_ne _ _ main_v6 (by decide), V3_given]
    isplitl [Ha]; · iexact Ha
    isplitl [H0]; · iexact H0
    isplitl [H1]; · iexact H1
    isplitl [Hx]; · iexact Hx
    isplitl [Ho]; · iexact Ho
    isplitl [H4]; · iexact H4
    isplitl [H5]; · iexact H5
    iexact H6
  iintro ⟨Hb, Hheld⟩
  rw [wp_ret]; imodintro
  iapply (wp_hlo_within 𝒱 (SparseCore.T d) none Set.univ (op := out₂) (S := hostBufs) out₂_bufs (V := (out₁ (F := F)).result (V4 m d))) $$ [Hb Hheld]
  · isplitl [Hb] <;> iassumption
  iintro ⟨Hb, Hheld⟩
  rw [wp_ret]; imodintro
  iapply (wp_hlo_within 𝒱 (SparseCore.T d) none Set.univ (op := out₃) (S := hostBufs) out₃_bufs (V := (out₂ (F := F)).result ((out₁ (F := F)).result (V4 m d)))) $$ [Hb Hheld]
  · isplitl [Hb] <;> iassumption
  iintro ⟨Hb, Hheld⟩
  ihave Hh := (Entails.of_eq (held_hostBufs (F := F) d (V7 m d))) $$ Hheld
  rw [V7_arg, V7_res]
  icases Hh with ⟨Ha, -, -, -, -, -, -, H6⟩
  rw [wp_ret]; imodintro; imodintro
  isplitl [Hst]; · iexact Hst
  isplitr [Hb Hts]
  · isplitl [Ha]; · iexact Ha
    iexact H6
  isplitl [Hb] <;> iassumption

/-! ## The run -/

/-- What is claimed of a device at the end. -/
def fq (d : Dev nD) (s' : Phys nD τ sig (Elt F)) : Prop := s'.mem.mem (aLoc d) = m (aLoc d) ∧ s'.mem.mem (rLoc d) = unflat (left m d)

theorem hfin (d : Dev nD) (s' : Phys nD τ sig (Elt F)) : iprop(FIN m d ∗ SI s') ⊢ (⌜fq m d s'⌝ : sProp 𝕄) := by
  iintro ⟨⟨Hx, Ha⟩, HSI⟩
  ihave H := (persistent_entails_right (SI_pointsTo_agree (st := s') (ℓ := aLoc d) (I := Finset.univ) (q := fullShare) (f := m (aLoc d)))) $$ [HSI Hx]
  · isplitl [HSI] <;> iassumption
  icases H with ⟨%hx, HSI, -⟩
  ihave H := (SI_pointsTo_agree (st := s') (ℓ := rLoc d) (I := Finset.univ) (q := fullShare) (f := unflat (left m d))) $$ [HSI Ha]
  · isplitl [HSI] <;> iassumption
  icases H with %ha
  ipureintro; exact ⟨funext fun i => hx i (Finset.mem_univ i), funext fun i => ha i (Finset.mem_univ i)⟩

/-- The argument as it was, the result in its place, every counter at zero. -/
def QC : PUnit × MemSt nD τ sig (Elt F) → Prop := fun r =>
  (∀ c : Dev nD, r.2.mem (aLoc c) = m (aLoc c) ∧ r.2.mem (rLoc c) = unflat (left m c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lattice

end
-- ==== Proof.Lattice.Layout.lean ====
/-
  Where a point lies in the flat layout, and so what the program's result holds at an entry.

  Coordinate `j` of point `r` lies at position `256 (r / 128) + 128 j + r % 128`, on the way in and on the way out.
-/
module

public import proofs.«01_k».proof.Proof.Lattice.Launch
public import Idealize.ShloMosaic.Lib.Pointwise.Reshape
public import Idealize.ShloMosaic.Lib.Pipeline.Value

@[expose] public section

noncomputable section

namespace Cert.Proof.Lattice

open Cert.KernelIdeal Cert.KernelIdeal.Gen Idealize.ShloMosaic

variable {F : FTy → Type} [FloatOps F]

/-- The flat position of coordinate `j` of point `r`. -/
def place (r : Fin 1048576) (j : Fin 2) : Fin 2097152 := ⟨256 * (r.val / 128) + 128 * j.val + r.val % 128, by omega⟩

/-- The block of 128 points that holds point `r`, and its number within it. -/
def block (r : Fin 1048576) : Fin 8192 := ⟨r.val / 128, by omega⟩
def within (r : Fin 1048576) : Fin 128 := ⟨r.val % 128, by omega⟩

/-- The flat array at a point's coordinate. -/
theorem flat_apply (x : S1048576x2.Idx → F .f32) (r : Fin 1048576) (j : Fin 2) : flat x (ix1 (place r j)) = x (ix2 r j) := by
  unfold flat
  rw [shapeCast_apply _ _ _ (ix3 (block r) j (within r)), transpose_apply _ _ _ _ (ix3 (block r) (within r) j) (fun c => match c with | ⟨0, _⟩ => rfl | ⟨1, _⟩ => rfl | ⟨2, _⟩ => rfl), shapeCast_apply _ _ _ (ix2 r j)]
  · rw [rowMajor_val2 _ 2 rfl, rowMajor_val3 _ 256 2 rfl rfl]
    change r.val * 2 + j.val = r.val / 128 * 256 + r.val % 128 * 2 + j.val
    omega
  · rw [rowMajor_val1, rowMajor_val3 _ 256 128 rfl rfl]
    change r.val / 128 * 256 + j.val * 128 + r.val % 128 = 256 * (r.val / 128) + 128 * j.val + r.val % 128
    omega

/-- A flat array laid back, at a point's coordinate. -/
theorem unflat_apply (y : S2097152.Idx → F .f32) (r : Fin 1048576) (j : Fin 2) : unflat y (ix2 r j) = y (ix1 (place r j)) := by
  unfold unflat
  rw [shapeCast_apply _ _ _ (ix3 (block r) (within r) j), transpose_apply _ _ _ _ (ix3 (block r) j (within r)) (fun c => match c with | ⟨0, _⟩ => rfl | ⟨1, _⟩ => rfl | ⟨2, _⟩ => rfl), shapeCast_apply _ _ _ (ix1 (place r j))]
  · rw [rowMajor_val1, rowMajor_val3 _ 256 128 rfl rfl]
    change 256 * (r.val / 128) + 128 * j.val + r.val % 128 = r.val / 128 * 256 + j.val * 128 + r.val % 128
    omega
  · rw [rowMajor_val2 _ 2 rfl, rowMajor_val3 _ 256 2 rfl rfl]
    change r.val / 128 * 256 + r.val % 128 * 2 + j.val = r.val * 2 + j.val
    omega

/-- The result's first coordinate of a point. -/
theorem result_first (x : S1048576x2.Idx → F .f32) (r : Fin 1048576) :
    unflat (answer (n := 2097152) (flat x)) (ix2 r (0 : Fin 2)) = near₀ (x (ix2 r (0 : Fin 2))) (x (ix2 r (1 : Fin 2))) := by
  rw [unflat_apply]
  unfold answer quantised
  have h : (place r 0).val % 256 < 128 := by unfold place; simp; omega
  have h' : (place r 1).val = (place r 0).val + 128 := by unfold place; simp; omega
  rw [show ((ix1 (place r 0) : S2097152.Idx) 0).val = (place r 0).val from rfl, if_pos h, at'_of_lt (flat x) (ix1 (place r 0)) (place r 0).val rfl, at'_of_lt (flat x) (ix1 (place r 1)) _ h', flat_apply, flat_apply]

/-- The result's second coordinate of a point. -/
theorem result_second (x : S1048576x2.Idx → F .f32) (r : Fin 1048576) :
    unflat (answer (n := 2097152) (flat x)) (ix2 r (1 : Fin 2)) = near₁ (x (ix2 r (0 : Fin 2))) (x (ix2 r (1 : Fin 2))) := by
  rw [unflat_apply]
  unfold answer quantised
  have h : ¬ (place r 1).val % 256 < 128 := by unfold place; simp; omega
  have h' : (place r 0).val = (place r 1).val - 128 := by unfold place; simp; omega
  rw [show ((ix1 (place r 1) : S2097152.Idx) 0).val = (place r 1).val from rfl, if_neg h, at'_of_lt (flat x) (ix1 (place r 1)) (place r 1).val rfl, at'_of_lt (flat x) (ix1 (place r 0)) _ h', flat_apply, flat_apply]

end Cert.Proof.Lattice

end
-- ==== Proof.Lattice.ReferenceRun.lean ====
/-
  The reference's run: its operations in order, and what they leave, by the steps of the mathematics.

  `fit x` is the plane scaled so that the rectangular lattice is the integers; `low x` and `high x` are a point's two candidates;
  `away` is the distance to a candidate; `nearer` is the number of the nearer one; `outcome` is that one.
-/
module

public import proofs.«01_k».proof.Proof.Gen.ReferenceIdeal
public import Idealize.ShloMosaic.Lib.StableHlo.Run

@[expose] public section

noncomputable section

namespace Cert.Proof.Lattice.Reference

open Cert.ReferenceIdeal Cert.ReferenceIdeal.Gen Idealize.ShloMosaic Idealize.ShloMosaic.TcCoe Idealize.SL.Sem Idealize.ShloMosaic.StableHlo

variable {F : FTy → Type} [FloatOps F]

/-! ## The steps -/

/-- The points: an array of pairs. -/
local notation "ℙ" => BufTy.Contents (Elt F) (BufTy.mk S1048576x2 EltTy.f32)
/-- One number for each point. -/
local notation "ℝ¹" => BufTy.Contents (Elt F) (BufTy.mk S1048576 EltTy.f32)
/-- One word for each point. -/
local notation "ℕ¹" => BufTy.Contents (Elt F) (BufTy.mk S1048576 EltTy.i32)

/-- The second coordinates. -/
def seconds (x : ℙ) : ℝ¹ := shapeCast S1048576 (extractStridedSlice S1048576x1 ![0, 1] x slices_S1048576x2_S1048576x1_0_1) shapeCasts_S1048576x1_S1048576

/-- The points with their second coordinates replaced. -/
def withSeconds (x : ℙ) (u : ℝ¹) : ℙ :=
  Host.scatter scatter_S1048576x2_S1_S1048576_0_1_1_0 (fun _ b => b) x (broadcastInDim S1 ![] bcast_S_S1 (constantI S_ 32 1#32)) u

/-- `√3`, for every point. -/
def roots : ℝ¹ := broadcastInDim S1048576 ![] bcast_S_S1048576 (constant S_ .f32 0x3FDDB3D7#32)

/-- One half, for every coordinate. -/
def halfs : ℙ := broadcastInDim S1048576x2 ![] bcast_S_S1048576x2 (constant S_ .f32 0x3F000000#32)

/-- The plane scaled to the integers. -/
def fit (x : ℙ) : ℙ := withSeconds x (Host.divf (seconds x) roots)

/-- The plane scaled back. -/
def unfit (x : ℙ) : ℙ := withSeconds x (mulf (seconds x) roots)

/-- The candidate in the rectangular lattice. -/
def low (x : ℙ) : ℙ := unfit (Host.roundeven (fit x))

/-- The candidate in the lattice moved by half a cell. -/
def high (x : ℙ) : ℙ := unfit (addf (Host.roundeven (subf (fit x) halfs)) halfs)

/-- The length of each point. -/
def length (z : ℙ) : ℝ¹ := Host.sqrt (Host.reduceAdd (mulf z z) (constant S_ .f32 0x00000000#32) reducesTo_S1048576x2_S1048576_d1 h_S_)

/-- The two candidates, one above the other. -/
def both (a b : (⟨S1048576x1x2, .f32⟩ : BufTy).Contents (Elt F)) : (⟨S1048576x2x2, .f32⟩ : BufTy).Contents (Elt F) :=
  concatenate S1048576x2x2 1 [⟨S1048576x1x2, a⟩, ⟨S1048576x1x2, b⟩] concatenates_S1048576x1x2_S1048576x1x2_S1048576x2x2_d1

/-- The two distances, side by side. -/
def beside (a b : (⟨S1048576x1, .f32⟩ : BufTy).Contents (Elt F)) : ℙ :=
  concatenate S1048576x2 1 [⟨S1048576x1, a⟩, ⟨S1048576x1, b⟩] concatenates_S1048576x1_S1048576x1_S1048576x2_d1

/-- Two columns of words, side by side. -/
def asPair (a b : (⟨S1048576x1, .i32⟩ : BufTy).Contents (Elt F)) : (⟨S1048576x2, .i32⟩ : BufTy).Contents (Elt F) :=
  concatenate S1048576x2 1 [⟨S1048576x1, a⟩, ⟨S1048576x1, b⟩] concatenates_S1048576x1_S1048576x1_S1048576x2_d1

/-- The least of each pair of numbers. -/
def leastValue (x : ℙ) (y : (⟨S1048576x2, .i32⟩ : BufTy).Contents (Elt F)) (u : (⟨S_, .f32⟩ : BufTy).Contents (Elt F)) (v : (⟨S_, .i32⟩ : BufTy).Contents (Elt F)) : ℝ¹ :=
  fun j => (Host.argReduce reducer_argmin_f32_i32 x y u v reducesTo_S1048576x2_S1048576_d1 h_S_ j).1

/-- The place of the least of each pair of numbers. -/
def leastPlace (x : ℙ) (y : (⟨S1048576x2, .i32⟩ : BufTy).Contents (Elt F)) (u : (⟨S_, .f32⟩ : BufTy).Contents (Elt F)) (v : (⟨S_, .i32⟩ : BufTy).Contents (Elt F)) : ℕ¹ :=
  fun j => (Host.argReduce reducer_argmin_f32_i32 x y u v reducesTo_S1048576x2_S1048576_d1 h_S_ j).2

/-- The number of the nearer candidate. -/
def nearer (x : ℙ) : ℕ¹ :=
  leastPlace (beside (broadcastInDim S1048576x1 ![0] bcast_S1048576_S1048576x1_0 (length (subf x (low x)))) (broadcastInDim S1048576x1 ![0] bcast_S1048576_S1048576x1_0 (length (subf x (high x)))))
    (iotaInDim S1048576x2 32 1) (constant S_ .f32 0x7F800000#32) (constantI S_ 32 0#32)

/-- A word, or that word and `n` where it is negative: how an index is read. -/
def wrapped (n : BitVec 32) (y : ℕ¹) : ℕ¹ :=
  select (cmpi .slt y (broadcastInDim S1048576 ![] bcast_S_S1048576 (constantI S_ 32 0#32))) (addi y (broadcastInDim S1048576 ![] bcast_S_S1048576 (constantI S_ 32 n))) y

/-- Of each point's two candidates the one numbered. -/
def chosen (a b : ℙ) (k : ℕ¹) : ℙ :=
  Host.gather gather_S1048576x2x2_S1048576x2_S1048576x2_1_01_n_n_01_1_112
    (both (broadcastInDim S1048576x1x2 ![0, 2] bcast_S1048576x2_S1048576x1x2_0_2 a) (broadcastInDim S1048576x1x2 ![0, 2] bcast_S1048576x2_S1048576x1x2_0_2 b))
    (asPair (broadcastInDim S1048576x1 ![0] bcast_S1048576_S1048576x1_0 (wrapped (F := F) 1048576#32 (iotaInDim S1048576 32 0))) (broadcastInDim S1048576x1 ![0] bcast_S1048576_S1048576x1_0 (wrapped (F := F) 2#32 k)))

/-- The nearest lattice points. -/
def outcome (x : ℙ) : ℙ := chosen (low x) (high x) (nearer x)

/-! ## The operations -/

/-- The reference's operations, in order. -/
abbrev ops : List (HloOp τ sig (Elt F)) :=
  [ unary main_arg0 main_v0 ((extractStridedSlice S1048576x1 ![0, 1] · slices_S1048576x2_S1048576x1_0_1) : (⟨S1048576x2, .f32⟩ : BufTy).Contents (Elt F) → (⟨S1048576x1, .f32⟩ : BufTy).Contents (Elt F)),
    reshape main_v0 main_v1 (rfl : (.f32 : EltTy) = .f32) shapeCasts_S1048576x1_S1048576,
    nullary main_cst (constant S_ .f32 0x3FDDB3D7#32),
    unary main_cst main_v2 (broadcastInDim S1048576 ![] bcast_S_S1048576 : (⟨S_, .f32⟩ : BufTy).Contents (Elt F) → (⟨S1048576, .f32⟩ : BufTy).Contents (Elt F)),
    binary main_v1 main_v2 main_v3 (Host.divf : (⟨S1048576, .f32⟩ : BufTy).Contents (Elt F) → (⟨S1048576, .f32⟩ : BufTy).Contents (Elt F) → (⟨S1048576, .f32⟩ : BufTy).Contents (Elt F)),
    nullary main_c (constantI S_ 32 1#32),
    unary main_c main_v4 (broadcastInDim S1 ![] bcast_S_S1 : (⟨S_, .i32⟩ : BufTy).Contents (Elt F) → (⟨S1, .i32⟩ : BufTy).Contents (Elt F)),
    ternary main_arg0 main_v4 main_v3 main_v5 ((fun x i u => Host.scatter scatter_S1048576x2_S1_S1048576_0_1_1_0 (fun _ b => b) x i u) : (⟨S1048576x2, .f32⟩ : BufTy).Contents (Elt F) → (⟨S1, .i32⟩ : BufTy).Contents (Elt F) → (⟨S1048576, .f32⟩ : BufTy).Contents (Elt F) → (⟨S1048576x2, .f32⟩ : BufTy).Contents (Elt F)),
    TRef.unary (TRef.of (T := ⟨S1048576x2, .f32⟩) main_v5) (TRef.of (T := ⟨S1048576x2, .f32⟩) main_v6) Host.roundeven,
    nullary main_cst_0 (constant S_ .f32 0x3F000000#32),
    unary main_cst_0 main_v7 (broadcastInDim S1048576x2 ![] bcast_S_S1048576x2 : (⟨S_, .f32⟩ : BufTy).Contents (Elt F) → (⟨S1048576x2, .f32⟩ : BufTy).Contents (Elt F)),
    binary main_v5 main_v7 main_v8 (subf : (⟨S1048576x2, .f32⟩ : BufTy).Contents (Elt F) → (⟨S1048576x2, .f32⟩ : BufTy).Contents (Elt F) → (⟨S1048576x2, .f32⟩ : BufTy).Contents (Elt F)),
    TRef.unary (TRef.of (T := ⟨S1048576x2, .f32⟩) main_v8) (TRef.of (T := ⟨S1048576x2, .f32⟩) main_v9) Host.roundeven,
    nullary main_cst_1 (constant S_ .f32 0x3F000000#32),
    unary main_cst_1 main_v10 (broadcastInDim S1048576x2 ![] bcast_S_S1048576x2 : (⟨S_, .f32⟩ : BufTy).Contents (Elt F) → (⟨S1048576x2, .f32⟩ : BufTy).Contents (Elt F)),
    binary main_v9 main_v10 main_v11 (addf : (⟨S1048576x2, .f32⟩ : BufTy).Contents (Elt F) → (⟨S1048576x2, .f32⟩ : BufTy).Contents (Elt F) → (⟨S1048576x2, .f32⟩ : BufTy).Contents (Elt F)),
    unary main_v6 main_v12 ((extractStridedSlice S1048576x1 ![0, 1] · slices_S1048576x2_S1048576x1_0_1) : (⟨S1048576x2, .f32⟩ : BufTy).Contents (Elt F) → (⟨S1048576x1, .f32⟩ : BufTy).Contents (Elt F)),
    reshape main_v12 main_v13 (rfl : (.f32 : EltTy) = .f32) shapeCasts_S1048576x1_S1048576,
    nullary main_cst_2 (constant S_ .f32 0x3FDDB3D7#32),
    unary main_cst_2 main_v14 (broadcastInDim S1048576 ![] bcast_S_S1048576 : (⟨S_, .f32⟩ : BufTy).Contents (Elt F) → (⟨S1048576, .f32⟩ : BufTy).Contents (Elt F)),
    binary main_v13 main_v14 main_v15 (mulf : (⟨S1048576, .f32⟩ : BufTy).Contents (Elt F) → (⟨S1048576, .f32⟩ : BufTy).Contents (Elt F) → (⟨S1048576, .f32⟩ : BufTy).Contents (Elt F)),
    nullary main_c_3 (constantI S_ 32 1#32),
    unary main_c_3 main_v16 (broadcastInDim S1 ![] bcast_S_S1 : (⟨S_, .i32⟩ : BufTy).Contents (Elt F) → (⟨S1, .i32⟩ : BufTy).Contents (Elt F)),
    ternary main_v6 main_v16 main_v15 main_v17 ((fun x i u => Host.scatter scatter_S1048576x2_S1_S1048576_0_1_1_0 (fun _ b => b) x i u) : (⟨S1048576x2, .f32⟩ : BufTy).Contents (Elt F) → (⟨S1, .i32⟩ : BufTy).Contents (Elt F) → (⟨S1048576, .f32⟩ : BufTy).Contents (Elt F) → (⟨S1048576x2, .f32⟩ : BufTy).Contents (Elt F)),
    unary main_v11 main_v18 ((extractStridedSlice S1048576x1 ![0, 1] · slices_S1048576x2_S1048576x1_0_1) : (⟨S1048576x2, .f32⟩ : BufTy).Contents (Elt F) → (⟨S1048576x1, .f32⟩ : BufTy).Contents (Elt F)),
    reshape main_v18 main_v19 (rfl : (.f32 : EltTy) = .f32) shapeCasts_S1048576x1_S1048576,
    nullary main_cst_4 (constant S_ .f32 0x3FDDB3D7#32),
    unary main_cst_4 main_v20 (broadcastInDim S1048576 ![] bcast_S_S1048576 : (⟨S_, .f32⟩ : BufTy).Contents (Elt F) → (⟨S1048576, .f32⟩ : BufTy).Contents (Elt F)),
    binary main_v19 main_v20 main_v21 (mulf : (⟨S1048576, .f32⟩ : BufTy).Contents (Elt F) → (⟨S1048576, .f32⟩ : BufTy).Contents (Elt F) → (⟨S1048576, .f32⟩ : BufTy).Contents (Elt F)),
    nullary main_c_5 (constantI S_ 32 1#32),
    unary main_c_5 main_v22 (broadcastInDim S1 ![] bcast_S_S1 : (⟨S_, .i32⟩ : BufTy).Contents (Elt F) → (⟨S1, .i32⟩ : BufTy).Contents (Elt F)),
    ternary main_v11 main_v22 main_v21 main_v23 ((fun x i u => Host.scatter scatter_S1048576x2_S1_S1048576_0_1_1_0 (fun _ b => b) x i u) : (⟨S1048576x2, .f32⟩ : BufTy).Contents (Elt F) → (⟨S1, .i32⟩ : BufTy).Contents (Elt F) → (⟨S1048576, .f32⟩ : BufTy).Contents (Elt F) → (⟨S1048576x2, .f32⟩ : BufTy).Contents (Elt F)),
    unary main_v17 main_v24 (broadcastInDim S1048576x1x2 ![0, 2] bcast_S1048576x2_S1048576x1x2_0_2 : (⟨S1048576x2, .f32⟩ : BufTy).Contents (Elt F) → (⟨S1048576x1x2, .f32⟩ : BufTy).Contents (Elt F)),
    unary main_v23 main_v25 (broadcastInDim S1048576x1x2 ![0, 2] bcast_S1048576x2_S1048576x1x2_0_2 : (⟨S1048576x2, .f32⟩ : BufTy).Contents (Elt F) → (⟨S1048576x1x2, .f32⟩ : BufTy).Contents (Elt F)),
    binary main_v24 main_v25 main_v26 both,
    binary main_arg0 main_v17 main_v27 (subf : (⟨S1048576x2, .f32⟩ : BufTy).Contents (Elt F) → (⟨S1048576x2, .f32⟩ : BufTy).Contents (Elt F) → (⟨S1048576x2, .f32⟩ : BufTy).Contents (Elt F)),
    TRef.binary (TRef.of (T := ⟨S1048576x2, .f32⟩) main_v27) (TRef.of (T := ⟨S1048576x2, .f32⟩) main_v27) (TRef.of (T := ⟨S1048576x2, .f32⟩) main_call2_v0) mulf,
    TRef.nullary (TRef.of (T := ⟨S_, .f32⟩) main_call2_cst) (constant S_ .f32 0x00000000#32),
    TRef.binary (TRef.of (T := ⟨S1048576x2, .f32⟩) main_call2_v0) (TRef.of (T := ⟨S_, .f32⟩) main_call2_cst) (TRef.of (T := ⟨S1048576, .f32⟩) main_call2_v1) (fun x v => Host.reduceAdd x v reducesTo_S1048576x2_S1048576_d1 h_S_),
    TRef.unary (TRef.of (T := ⟨S1048576, .f32⟩) main_call2_v1) (TRef.of (T := ⟨S1048576, .f32⟩) main_v28) Host.sqrt,
    binary main_arg0 main_v23 main_v29 (subf : (⟨S1048576x2, .f32⟩ : BufTy).Contents (Elt F) → (⟨S1048576x2, .f32⟩ : BufTy).Contents (Elt F) → (⟨S1048576x2, .f32⟩ : BufTy).Contents (Elt F)),
    TRef.binary (TRef.of (T := ⟨S1048576x2, .f32⟩) main_v29) (TRef.of (T := ⟨S1048576x2, .f32⟩) main_v29) (TRef.of (T := ⟨S1048576x2, .f32⟩) main_call3_v0) mulf,
    TRef.nullary (TRef.of (T := ⟨S_, .f32⟩) main_call3_cst) (constant S_ .f32 0x00000000#32),
    TRef.binary (TRef.of (T := ⟨S1048576x2, .f32⟩) main_call3_v0) (TRef.of (T := ⟨S_, .f32⟩) main_call3_cst) (TRef.of (T := ⟨S1048576, .f32⟩) main_call3_v1) (fun x v => Host.reduceAdd x v reducesTo_S1048576x2_S1048576_d1 h_S_),
    TRef.unary (TRef.of (T := ⟨S1048576, .f32⟩) main_call3_v1) (TRef.of (T := ⟨S1048576, .f32⟩) main_v30) Host.sqrt,
    unary main_v28 main_v31 (broadcastInDim S1048576x1 ![0] bcast_S1048576_S1048576x1_0 : (⟨S1048576, .f32⟩ : BufTy).Contents (Elt F) → (⟨S1048576x1, .f32⟩ : BufTy).Contents (Elt F)),
    unary main_v30 main_v32 (broadcastInDim S1048576x1 ![0] bcast_S1048576_S1048576x1_0 : (⟨S1048576, .f32⟩ : BufTy).Contents (Elt F) → (⟨S1048576x1, .f32⟩ : BufTy).Contents (Elt F)),
    binary main_v31 main_v32 main_v33 beside,
    TRef.nullary (TRef.of (T := ⟨S1048576x2, .i32⟩) main_call4_v0) (iotaInDim S1048576x2 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S1048576x2, .f32⟩) main_v33) (TRef.of (T := ⟨S1048576x2, .i32⟩) main_call4_v0) (TRef.of (T := ⟨S_, .f32⟩) main_call4_cst) (TRef.of (T := ⟨S_, .i32⟩) main_call4_c) (TRef.of (T := ⟨S1048576, .f32⟩) main_call4_v1_0) leastValue,
    TRef.quaternary (TRef.of (T := ⟨S1048576x2, .f32⟩) main_v33) (TRef.of (T := ⟨S1048576x2, .i32⟩) main_call4_v0) (TRef.of (T := ⟨S_, .f32⟩) main_call4_cst) (TRef.of (T := ⟨S_, .i32⟩) main_call4_c) (TRef.of (T := ⟨S1048576, .i32⟩) main_v34) leastPlace,
    nullary main_v35 (iotaInDim S1048576 32 0),
    nullary main_c_6 (constantI S_ 32 0#32),
    unary main_c_6 main_v36 (broadcastInDim S1048576 ![] bcast_S_S1048576 : (⟨S_, .i32⟩ : BufTy).Contents (Elt F) → (⟨S1048576, .i32⟩ : BufTy).Contents (Elt F)),
    binary main_v35 main_v36 main_v37 (cmpi .slt : (⟨S1048576, .i32⟩ : BufTy).Contents (Elt F) → (⟨S1048576, .i32⟩ : BufTy).Contents (Elt F) → (⟨S1048576, .i1⟩ : BufTy).Contents (Elt F)),
    nullary main_c_7 (constantI S_ 32 1048576#32),
    unary main_c_7 main_v38 (broadcastInDim S1048576 ![] bcast_S_S1048576 : (⟨S_, .i32⟩ : BufTy).Contents (Elt F) → (⟨S1048576, .i32⟩ : BufTy).Contents (Elt F)),
    binary main_v35 main_v38 main_v39 (addi : (⟨S1048576, .i32⟩ : BufTy).Contents (Elt F) → (⟨S1048576, .i32⟩ : BufTy).Contents (Elt F) → (⟨S1048576, .i32⟩ : BufTy).Contents (Elt F)),
    ternary main_v37 main_v39 main_v35 main_v40 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_8 (constantI S_ 32 0#32),
    unary main_c_8 main_v41 (broadcastInDim S1048576 ![] bcast_S_S1048576 : (⟨S_, .i32⟩ : BufTy).Contents (Elt F) → (⟨S1048576, .i32⟩ : BufTy).Contents (Elt F)),
    binary main_v34 main_v41 main_v42 (cmpi .slt : (⟨S1048576, .i32⟩ : BufTy).Contents (Elt F) → (⟨S1048576, .i32⟩ : BufTy).Contents (Elt F) → (⟨S1048576, .i1⟩ : BufTy).Contents (Elt F)),
    nullary main_c_9 (constantI S_ 32 2#32),
    unary main_c_9 main_v43 (broadcastInDim S1048576 ![] bcast_S_S1048576 : (⟨S_, .i32⟩ : BufTy).Contents (Elt F) → (⟨S1048576, .i32⟩ : BufTy).Contents (Elt F)),
    binary main_v34 main_v43 main_v44 (addi : (⟨S1048576, .i32⟩ : BufTy).Contents (Elt F) → (⟨S1048576, .i32⟩ : BufTy).Contents (Elt F) → (⟨S1048576, .i32⟩ : BufTy).Contents (Elt F)),
    ternary main_v42 main_v44 main_v34 main_v45 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v40 main_v46 (broadcastInDim S1048576x1 ![0] bcast_S1048576_S1048576x1_0 : (⟨S1048576, .i32⟩ : BufTy).Contents (Elt F) → (⟨S1048576x1, .i32⟩ : BufTy).Contents (Elt F)),
    unary main_v45 main_v47 (broadcastInDim S1048576x1 ![0] bcast_S1048576_S1048576x1_0 : (⟨S1048576, .i32⟩ : BufTy).Contents (Elt F) → (⟨S1048576x1, .i32⟩ : BufTy).Contents (Elt F)),
    binary main_v46 main_v47 main_v48 asPair,
    binary main_v26 main_v48 main_v49 ((fun x i => Host.gather gather_S1048576x2x2_S1048576x2_S1048576x2_1_01_n_n_01_1_112 x i) : (⟨S1048576x2x2, .f32⟩ : BufTy).Contents (Elt F) → (⟨S1048576x2, .i32⟩ : BufTy).Contents (Elt F) → (⟨S1048576x2, .f32⟩ : BufTy).Contents (Elt F)) ]

set_option maxRecDepth 8192 in
set_option maxHeartbeats 4000000 in
theorem main_eq (c : Dev nD) : main (F := F) c = seq ops := rfl

theorem no_scoped_refs : (Finset.univ.filter fun b : Ref sig .tc => b.isScoped) = ∅ := by decide
theorem no_scoped_sems : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., unary_bufs_sub .., reshape_bufs_sub .., nullary_bufs_sub .., unary_bufs_sub .., binary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., ternary_bufs_sub .., unary_bufs_sub .., unary_bufs_sub .., binary_bufs_sub .., binary_bufs_sub .., binary_bufs_sub .., nullary_bufs_sub .., binary_bufs_sub .., unary_bufs_sub .., binary_bufs_sub .., binary_bufs_sub .., nullary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

set_option maxRecDepth 8192 in
set_option maxHeartbeats 29200000 in
/-- The result after the operations. -/
theorem after_ops (V : Valuation τ sig (Elt F)) : after ops V (Proc.devRef .tc main_v49) = outcome (V (Proc.devRef .tc main_arg0)) := by
  simp only [ops, TRef.quaternary, TRef.binary, TRef.nullary, TRef.unary, TRef.toBuf, TRef.ofBuf, cast_eq]
  after_results_simp
  rfl

set_option maxRecDepth 8192 in
set_option maxHeartbeats 29200000 in
/-- The argument after the operations. -/
theorem after_ops_arg (V : Valuation τ sig (Elt F)) : after ops V (Proc.devRef .tc main_arg0) = V (Proc.devRef .tc main_arg0) := by
  simp only [ops, TRef.quaternary, TRef.binary, TRef.nullary, TRef.unary, TRef.toBuf, TRef.ofBuf, cast_eq]
  after_results_simp

end Cert.Proof.Lattice.Reference

end
-- ==== Proof.Lattice.Columns.lean ====
/-
  The second column of the points, read and replaced: what the reference's slice and scatter hold at an entry.
-/
module

public import proofs.«01_k».proof.Proof.Lattice.ReferenceRun
public import Idealize.ShloMosaic.Lib.Routing.OpsOne
public import Idealize.ShloMosaic.Lib.Pointwise.IndexBridge
public import Idealize.ShloMosaic.Lib.Pointwise.Reshape
public import Idealize.ShloMosaic.Lib.Pointwise.ShapeOps
public import Idealize.ShloMosaic.Lib.Pointwise.Select

@[expose] public section

noncomputable section

namespace Cert.Proof.Lattice.Reference

open Cert.ReferenceIdeal Cert.ReferenceIdeal.Gen Idealize.ShloMosaic

variable {F : FTy → Type} [FloatOps F]

/-- The second coordinates are the second column. -/
theorem seconds_apply (x : S1048576x2.Idx → F .f32) (r : Fin 1048576) : seconds (F := F) x (ix1 r) = x (ix2 r (1 : Fin 2)) := by
  unfold seconds
  simp only [pointwise]
  exact congrArg (fun t => x (ix2 t (1 : Fin 2))) (Fin.ext (Nat.zero_add r.val))

/-- The first column stays when the second is replaced. -/
theorem withSeconds_first (x : S1048576x2.Idx → F .f32) (u : S1048576.Idx → F .f32) (r : Fin 1048576) :
    withSeconds (F := F) x u (ix2 r (0 : Fin 2)) = x (ix2 r (0 : Fin 2)) := by
  unfold withSeconds
  rw [ix2_eq_valueIdx]
  refine Routing.scatter_set_miss _ x _ u _ fun j hj => ?_
  rw [ValueIdx.eq_ix1 j] at hj
  exact absurd ((Routing.lands_col scatter_S1048576x2_S1_S1048576_0_1_1_0 rfl rfl _ (1 : Fin 2) (by rfl) _ _ _).1 hj).2 (by decide)

/-- The second column is replaced by what is given. -/
theorem withSeconds_second (x : S1048576x2.Idx → F .f32) (u : S1048576.Idx → F .f32) (r : Fin 1048576) :
    withSeconds (F := F) x u (ix2 r (1 : Fin 2)) = u (ix1 r) := by
  unfold withSeconds
  rw [ix2_eq_valueIdx, ix1_eq_valueIdx]
  have lands := fun r' : Fin 1048576 => Routing.lands_col scatter_S1048576x2_S1_S1048576_0_1_1_0 rfl rfl
    (broadcastInDim S1 ![] bcast_S_S1 (constantI S_ 32 1#32)) (1 : Fin 2) (by rfl) r' r (1 : Fin 2)
  refine Routing.scatter_set_hit _ x _ u _ _ (fun j hj => ?_) (ValueIdx.ix1 r) ((lands r).2 ⟨rfl, rfl⟩)
  rw [ValueIdx.eq_ix1 j] at hj ⊢
  exact congrArg (fun t => u (ValueIdx.ix1 t)) ((lands _).1 hj).1

end Cert.Proof.Lattice.Reference

end
-- ==== Proof.Lattice.Candidates.lean ====
/-
  The reference's two candidates, and the distance to each, at an entry.
-/
module

public import proofs.«01_k».proof.Proof.Lattice.Columns
public import proofs.«01_k».proof.Proof.Lattice.Formula
public import Idealize.ShloMosaic.Lib.Pointwise

@[expose] public section

noncomputable section

namespace Cert.Proof.Lattice.Reference

open Cert.ReferenceIdeal Cert.ReferenceIdeal.Gen Idealize.ShloMosaic

/-- The points, over the extended reals. -/
local notation "𝔼" => FVec Ideal S1048576x2 FTy.f32

variable (x : 𝔼) (r : Fin 1048576)

/-- The host's rounding to the nearest integer is the kernel's. -/
theorem host_round (v : Ideal .f32) : FloatOps.hostUnary (F := Ideal) (φ := .f32) .roundeven v = whole v := rfl

/-- The host's quotient is the kernel's. -/
theorem host_quotient (v w : Ideal .f32) : FloatOps.hostDivf (F := Ideal) (φ := .f32) v w = FloatOps.divf v w := rfl

theorem roots_apply : roots (F := Ideal) (ix1 r) = root3 (F := Ideal) := rfl

theorem halfs_apply (j : S1048576x2.Idx) : halfs (F := Ideal) j = half (F := Ideal) := rfl

theorem fit_first : fit (F := Ideal) x (ix2 r (0 : Fin 2)) = x (ix2 r (0 : Fin 2)) := by
  unfold fit
  exact withSeconds_first (F := Ideal) x _ r

theorem fit_second : fit (F := Ideal) x (ix2 r (1 : Fin 2)) = FloatOps.divf (x (ix2 r (1 : Fin 2))) root3 := by
  unfold fit
  rw [withSeconds_second (F := Ideal), Host.divf_apply, seconds_apply (F := Ideal), roots_apply, host_quotient]

theorem unfit_first : unfit (F := Ideal) x (ix2 r (0 : Fin 2)) = x (ix2 r (0 : Fin 2)) := by
  unfold unfit
  exact withSeconds_first (F := Ideal) x _ r

theorem unfit_second : unfit (F := Ideal) x (ix2 r (1 : Fin 2)) = FloatOps.mulf (x (ix2 r (1 : Fin 2))) root3 := by
  unfold unfit
  rw [withSeconds_second (F := Ideal), mulf_apply, seconds_apply (F := Ideal), roots_apply]

theorem low_first : low (F := Ideal) x (ix2 r (0 : Fin 2)) = whole (x (ix2 r (0 : Fin 2))) := by
  unfold low
  rw [unfit_first, Host.roundeven_apply, host_round, fit_first]

theorem low_second : low (F := Ideal) x (ix2 r (1 : Fin 2)) = second₁ (x (ix2 r (1 : Fin 2))) := by
  unfold low second₁
  rw [unfit_second, Host.roundeven_apply, host_round, fit_second]

theorem high_first : high (F := Ideal) x (ix2 r (0 : Fin 2)) = halves (x (ix2 r (0 : Fin 2))) := by
  unfold high halves
  rw [unfit_first, addf_apply, Host.roundeven_apply, host_round, subf_apply, halfs_apply, fit_first, whole]

theorem high_second : high (F := Ideal) x (ix2 r (1 : Fin 2)) = second₂ (x (ix2 r (1 : Fin 2))) := by
  unfold high second₂ halves
  rw [unfit_second, addf_apply, Host.roundeven_apply, host_round, subf_apply, halfs_apply, fit_second, whole]

/-- A sum along a row is the sum of its two entries. -/
theorem row_sum (v : S1048576x2.Idx → EReal) (init : EReal) (j : S1048576.Idx) (hj : j = ix1 r) :
    Ideal.hostReduceAdd reducesTo_S1048576x2_S1048576_d1 v init j = init + (v (ix2 r (0 : Fin 2)) + v (ix2 r (1 : Fin 2))) := by
  subst hj
  rw [Ideal.hostReduceAdd_r2_a1, Fin.sum_univ_two]
  rfl

/-- The host's root is the exact one. -/
theorem host_sqrt (v : Ideal .f32) : FloatOps.hostUnary (F := Ideal) (φ := .f32) .sqrt v = Ideal.sqrt v := rfl

/-- The zero pattern adds nothing. -/
theorem zero_plus (v : Ideal .f32) : (FloatOps.ofBits (F := Ideal) .f32 0x00000000#32 + v : EReal) = v := by
  rw [Ideal.ofBits_def, Ideal.ofBits_zero_f32, zero_add]

/-- A row's length is the root of the sum of its two squares. -/
theorem length_apply (z : 𝔼) : length (F := Ideal) z (ix1 r)
    = Ideal.sqrt (FloatOps.addf (FloatOps.mulf (z (ix2 r (0 : Fin 2))) (z (ix2 r (0 : Fin 2)))) (FloatOps.mulf (z (ix2 r (1 : Fin 2))) (z (ix2 r (1 : Fin 2))))) := by
  unfold length
  rw [Host.sqrt_apply, Host.reduceAdd_apply, Ideal.hostReduceAdd_def, row_sum r _ _ _ rfl, constant_apply,
    zero_plus, mulf_apply, mulf_apply, host_sqrt, Ideal.addf_def]

/-- The distance to a candidate. -/
theorem away (z : 𝔼) (u v : Ideal .f32) (h0 : z (ix2 r (0 : Fin 2)) = u) (h1 : z (ix2 r (1 : Fin 2)) = v) :
    length (F := Ideal) (subf x z) (ix1 r) = Ideal.sqrt (dist2 (x (ix2 r (0 : Fin 2))) (x (ix2 r (1 : Fin 2))) u v) := by
  unfold dist2
  rw [length_apply, subf_apply, subf_apply, h0, h1]

theorem away_low : length (F := Ideal) (subf x (low (F := Ideal) x)) (ix1 r)
    = Ideal.sqrt (dist2 (x (ix2 r (0 : Fin 2))) (x (ix2 r (1 : Fin 2))) (whole (x (ix2 r (0 : Fin 2)))) (second₁ (x (ix2 r (1 : Fin 2))))) :=
  away x r _ _ _ (low_first x r) (low_second x r)

theorem away_high : length (F := Ideal) (subf x (high (F := Ideal) x)) (ix1 r)
    = Ideal.sqrt (dist2 (x (ix2 r (0 : Fin 2))) (x (ix2 r (1 : Fin 2))) (halves (x (ix2 r (0 : Fin 2)))) (second₂ (x (ix2 r (1 : Fin 2))))) :=
  away x r _ _ _ (high_first x r) (high_second x r)

end Cert.Proof.Lattice.Reference

end
-- ==== Proof.Lattice.Chosen.lean ====
/-
  The reference's choice between the two candidates, at an entry: a gather that reads, in its own row, the candidate numbered.
-/
module

public import proofs.«01_k».proof.Proof.Lattice.ReferenceRun
public import Idealize.ShloMosaic.Lib.Pointwise.Select
public import Idealize.ShloMosaic.Lib.Pointwise.ShapeOps
public import Idealize.ShloMosaic.Lib.Pointwise.ElementwiseCore
public import Idealize.ShloMosaic.Lib.Routing.OpsPair

@[expose] public section

noncomputable section

namespace Cert.Proof.Lattice.Reference

open Cert.ReferenceIdeal Cert.ReferenceIdeal.Gen Idealize.ShloMosaic

variable {F : FTy → Type} [FloatOps F]

local notation "δ" => gather_S1048576x2x2_S1048576x2_S1048576x2_1_01_n_n_01_1_112

/-- Where the start of row `r`'s slice is read from: its two words. -/
theorem start_at (idx : IVec S1048576x2 32) (r : Fin 1048576) (j : Fin 2) (q : Fin 2) :
    (GatherDims.siIdx δ (ix2 r j) ⟨q.val, q.isLt⟩ : S1048576x2.Idx) = ix2 r q := by
  funext b
  match b with
  | ⟨0, _⟩ => rfl
  | ⟨1, _⟩ => rfl

/-- The entry read: the two words, each clamped into the array, and the result's own column. -/
theorem read_at (idx : IVec S1048576x2 32) (r : Fin 1048576) (j : Fin 2) (a : Fin 1048576) (c : Fin 2)
    (ha : idx (ix2 r (0 : Fin 2)) = BitVec.ofNat 32 a.val) (hc : idx (ix2 r (1 : Fin 2)) = BitVec.ofNat 32 c.val) :
    (GatherDims.operandIdx δ (ix2 r j) idx : S1048576x2x2.Idx) = ix3 a c j := by
  have hal := a.isLt
  have hcl := c.isLt
  funext ax
  refine Fin.ext ?_
  show GatherDims.start δ (ix2 r j) idx ax + GatherDims.batchCoord δ (ix2 r j) ax + GatherDims.offCoord δ (ix2 r j) ax = (ix3 a c j ax).val
  rw [GatherDims.batchCoord_eq_zero _ _ _ List.not_mem_nil]
  have h012 : ax = 0 ∨ ax = 1 ∨ ax = 2 := by
    match ax with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_cons_self))]
    unfold GatherDims.start
    rw [dif_pos (show (0 : Fin 3) ∈ GatherDims.startIndexMap δ from List.mem_cons_self)]
    have e := start_at idx r j 0
    show min (idx (GatherDims.siIdx δ (ix2 r j) ⟨0, _⟩)).toInt.toNat 1048575 + 0 + 0 = a.val
    rw [show GatherDims.siIdx δ (ix2 r j) ⟨0, Nat.zero_lt_two⟩ = ix2 r (0 : Fin 2) from e, ha, StableHlo.Predicate.toInt_ofNat_small _ (by omega)]
    omega
  · rw [GatherDims.offCoord_eq_zero _ _ _ (fun h => ((GatherDims.mem_sKept _ _).mp h).1 (List.mem_cons_of_mem _ List.mem_cons_self))]
    unfold GatherDims.start
    rw [dif_pos (show (1 : Fin 3) ∈ GatherDims.startIndexMap δ from List.mem_cons_of_mem _ List.mem_cons_self)]
    have e := start_at idx r j 1
    show min (idx (GatherDims.siIdx δ (ix2 r j) ⟨1, _⟩)).toInt.toNat 1 + 0 + 0 = c.val
    rw [show GatherDims.siIdx δ (ix2 r j) ⟨1, Nat.one_lt_two⟩ = ix2 r (1 : Fin 2) from e, hc, StableHlo.Predicate.toInt_ofNat_small _ (by omega)]
    omega
  · have h0 : GatherDims.start δ (ix2 r j) idx 2 = 0 := by
      unfold GatherDims.start
      exact dif_neg (by decide)
    rw [h0]
    unfold GatherDims.offCoord
    rw [dif_pos (by decide)]
    show 0 + 0 + j.val = j.val
    omega

/-- A word that is not negative is read as it is. -/
theorem wrapped_apply (n : BitVec 32) (y : IVec S1048576 32) (r : Fin 1048576) (h : (y (ix1 r)).toNat < 2 ^ 31) :
    wrapped (F := F) n y (ix1 r) = y (ix1 r) :=
  Routing.wrap_of_lt (y (ix1 r)) _ h

/-- The first of two columns of words. -/
theorem asPair_first (a b : IVec S1048576x1 32) (r : Fin 1048576) : asPair (F := F) a b (ix2 r (0 : Fin 2)) = a (ix2 r (0 : Fin 1)) := by
  unfold asPair
  simp only [pointwise]
  rfl

/-- The second of two columns of words. -/
theorem asPair_second (a b : IVec S1048576x1 32) (r : Fin 1048576) : asPair (F := F) a b (ix2 r (1 : Fin 2)) = b (ix2 r (0 : Fin 1)) := by
  unfold asPair
  rw [concatenate_pair_apply, dif_neg]
  · refine congrArg b (funext fun q => Fin.ext ?_)
    fin_cases q <;> rfl
  · exact Nat.lt_irrefl 1

/-- The first of the two candidates. -/
theorem both_first (a b : S1048576x1x2.Idx → F .f32) (r : Fin 1048576) (j : Fin 2) :
    both (F := F) a b (ix3 r (0 : Fin 2) j) = a (ix3 r (0 : Fin 1) j) := by
  unfold both
  simp only [pointwise]
  rfl

/-- The second of the two candidates. -/
theorem both_second (a b : S1048576x1x2.Idx → F .f32) (r : Fin 1048576) (j : Fin 2) :
    both (F := F) a b (ix3 r (1 : Fin 2) j) = b (ix3 r (0 : Fin 1) j) := by
  unfold both
  rw [concatenate_pair_apply, dif_neg]
  · refine congrArg b (funext fun q => Fin.ext ?_)
    fin_cases q <;> rfl
  · exact Nat.lt_irrefl 1

/-- An array of pairs with an axis of one put between. -/
theorem widened_apply (a : S1048576x2.Idx → F .f32) (r : Fin 1048576) (j : Fin 2) :
    broadcastInDim S1048576x1x2 ![0, 2] bcast_S1048576x2_S1048576x1x2_0_2 a (ix3 r (0 : Fin 1) j) = a (ix2 r j) := by
  simp only [pointwise]
  rfl

/-- A vector as a column. -/
theorem column_apply {α : Type} (y : S1048576.Idx → α) (r : Fin 1048576) :
    broadcastInDim S1048576x1 ![0] bcast_S1048576_S1048576x1_0 y (ix2 r (0 : Fin 1)) = y (ix1 r) := by
  simp only [pointwise]
  rfl

/-- The candidate numbered `c` is read. -/
theorem chosen_apply (a b : S1048576x2.Idx → F .f32) (k : IVec S1048576 32) (r : Fin 1048576) (j : Fin 2) (c : Fin 2)
    (hk : k (ix1 r) = BitVec.ofNat 32 c.val) :
    chosen (F := F) a b k (ix2 r j) = if c = 0 then a (ix2 r j) else b (ix2 r j) := by
  have hr := r.isLt
  have hc := c.isLt
  have hi : (iotaInDim S1048576 32 0 : IVec S1048576 32) (ix1 r) = BitVec.ofNat 32 r.val := rfl
  unfold chosen Host.gather
  rw [read_at _ r j r c]
  · match c with
    | ⟨0, _⟩ => exact (both_first (F := F) _ _ r j).trans (widened_apply a r j)
    | ⟨1, _⟩ => exact (both_second (F := F) _ _ r j).trans (widened_apply b r j)
  · rw [asPair_first, column_apply, wrapped_apply, hi]
    rw [hi, BitVec.toNat_ofNat]
    omega
  · rw [asPair_second, column_apply, wrapped_apply, hk]
    rw [hk, BitVec.toNat_ofNat]
    omega

end Cert.Proof.Lattice.Reference

end
-- ==== Proof.Lattice.Fiber.lean ====
/-
  The two entries of one row, in order: what a reduction along the second axis of the points' array folds over.
-/
module

public import proofs.«01_k».proof.Proof.Lattice.ReferenceRun
public import Idealize.ShloMosaic.Lib.Pointwise.Reshape
public import Idealize.ShloMosaic.PureOps.Reduce

@[expose] public section

noncomputable section

namespace Cert.Proof.Lattice.Reference

open Cert.ReferenceIdeal Cert.ReferenceIdeal.Gen Idealize.ShloMosaic

/-- A place of the array lies in row `r` exactly when its first coordinate is `r`. -/
theorem drop_iff (i : S1048576x2.Idx) (r : Fin 1048576) :
    reducesTo_S1048576x2_S1048576_d1.drop i = ix1 r ↔ (i 0).val = r.val := by
  have h0 := Shape.ReducesTo.drop_apply_val_of_eq reducesTo_S1048576x2_S1048576_d1 i 0 0 (by decide)
  constructor
  · intro h
    rw [← h0, h]; rfl
  · intro h
    funext b
    match b with
    | ⟨0, _⟩ => exact Fin.ext (h0.trans h)

/-- The positions of row `r` are its two entries, in order. -/
theorem row_positions (r : Fin 1048576) :
    ((List.finRange S1048576x2.numel).filter fun n => reducesTo_S1048576x2_S1048576_d1.drop (S1048576x2.rowMajor.symm n) = ix1 r)
      = [S1048576x2.rowMajor (ix2 r (0 : Fin 2)), S1048576x2.rowMajor (ix2 r (1 : Fin 2))] := by
  have v : ∀ c : Fin 2, (S1048576x2.rowMajor (ix2 r c) : ℕ) = r.val * 2 + c.val := fun c => rowMajor_val2 _ 2 rfl
  have lt : S1048576x2.rowMajor (ix2 r (0 : Fin 2)) < S1048576x2.rowMajor (ix2 r (1 : Fin 2)) :=
    Fin.lt_def.2 (by rw [v, v]; exact Nat.lt_succ_self _)
  have s1 : ((List.finRange S1048576x2.numel).filter fun n => reducesTo_S1048576x2_S1048576_d1.drop (S1048576x2.rowMajor.symm n) = ix1 r).Pairwise (· < ·) :=
    (List.pairwise_lt_finRange _).filter _
  have s2 : [S1048576x2.rowMajor (ix2 r (0 : Fin 2)), S1048576x2.rowMajor (ix2 r (1 : Fin 2))].Pairwise (· < ·) := by simpa using lt
  refine List.Perm.eq_of_pairwise (fun a b _ _ hab hba => absurd hab (lt_asymm hba)) s1 s2
    ((List.perm_ext_iff_of_nodup (s1.imp fun h => ne_of_lt h) (s2.imp fun h => ne_of_lt h)).2 fun n => ?_)
  rw [List.mem_filter, decide_eq_true_iff, drop_iff]
  obtain ⟨i, rfl⟩ := S1048576x2.rowMajor.surjective n
  rw [Equiv.symm_apply_apply]
  obtain ⟨a, b, rfl⟩ : ∃ (a : Fin 1048576) (b : Fin 2), i = ix2 a b := ⟨_, _, eq_ix2 i⟩
  simp only [List.mem_finRange, true_and, List.mem_cons, List.not_mem_nil, or_false, EmbeddingLike.apply_eq_iff_eq, ix2_inj]
  show a.val = r.val ↔ _
  rw [Fin.ext_iff (a := a) (b := r)]
  match b with
  | ⟨0, _⟩ => simp
  | ⟨1, _⟩ => simp

/-- The pairs that row `r`'s reduction folds over. -/
theorem row_fiber {α β : Type} (x : S1048576x2.Idx → α) (y : S1048576x2.Idx → β) (r : Fin 1048576) :
    Host.argReduceFiber x y reducesTo_S1048576x2_S1048576_d1 (ix1 r)
      = [(x (ix2 r (0 : Fin 2)), y (ix2 r (0 : Fin 2))), (x (ix2 r (1 : Fin 2)), y (ix2 r (1 : Fin 2)))] := by
  unfold Host.argReduceFiber
  rw [row_positions]
  simp only [List.map_cons, List.map_nil, Equiv.symm_apply_apply]

end Cert.Proof.Lattice.Reference

end
-- ==== Proof.Lattice.Root.lean ====
/-
  Two facts of the extended reals: a square is not negative, and the root keeps the order of what is not negative.
-/
module

public import Idealize.ShloMosaic.PureOps.Ideal

@[expose] public section

noncomputable section

namespace Cert.Proof.Lattice

open Idealize.ShloMosaic

theorem square_nonneg (a : EReal) : 0 ≤ a * a := by
  induction a with
  | bot => simp
  | top => simp
  | coe r => rw [← EReal.coe_mul]; exact_mod_cast mul_self_nonneg r

theorem root_nonneg (a : EReal) (h : 0 ≤ a) : 0 ≤ Ideal.sqrt a := by
  induction a with
  | bot => simp at h
  | top => simp
  | coe r =>
    have hr : 0 ≤ r := by exact_mod_cast h
    rw [Ideal.sqrt_coe, if_neg (not_lt.2 hr)]
    exact_mod_cast Real.sqrt_nonneg r

theorem root_le_root (a b : EReal) (ha : 0 ≤ a) (hb : 0 ≤ b) : Ideal.sqrt a ≤ Ideal.sqrt b ↔ a ≤ b := by
  induction b with
  | bot => simp at hb
  | top => simp
  | coe s =>
    have hs : 0 ≤ s := by exact_mod_cast hb
    induction a with
    | bot => simp at ha
    | top => rw [Ideal.sqrt_coe, if_neg (not_lt.2 hs)]; simp
    | coe r =>
      have hr : 0 ≤ r := by exact_mod_cast ha
      rw [Ideal.sqrt_coe, Ideal.sqrt_coe, if_neg (not_lt.2 hr), if_neg (not_lt.2 hs), EReal.coe_le_coe_iff, EReal.coe_le_coe_iff]
      exact Real.sqrt_le_sqrt_iff hs

end Cert.Proof.Lattice

end
-- ==== Proof.Lattice.Nearer.lean ====
/-
  The number of the nearer candidate, and the reference's outcome at an entry.
-/
module

public import proofs.«01_k».proof.Proof.Lattice.Candidates
public import proofs.«01_k».proof.Proof.Lattice.Chosen
public import proofs.«01_k».proof.Proof.Lattice.Fiber
public import proofs.«01_k».proof.Proof.Lattice.Root
public import Idealize.ShloMosaic.PureOps.Ideal.Laws

@[expose] public section

noncomputable section

namespace Cert.Proof.Lattice.Reference

open Cert.ReferenceIdeal Cert.ReferenceIdeal.Gen Idealize.ShloMosaic

/-- The pattern that the search for the least begins with is `+∞`. -/
theorem start_top : (FloatOps.ofBits (F := Ideal) .f32 0x7F800000#32 : EReal) = ⊤ := by
  rw [Ideal.ofBits_def]
  simp [Ideal.ofBits, Ideal.ieee]

/-- The search among `d` and `e` for the least: the first of them on a tie. -/
theorem least_two (d e : Ideal .f32) :
    (reducer_argmin_f32_i32 (F := Ideal) (reducer_argmin_f32_i32 (F := Ideal) (FloatOps.ofBits .f32 0x7F800000#32, 0#32) (d, 0#32)) (e, 1#32)).2
      = if (d : EReal) ≤ e then 0#32 else 1#32 := by
  have first : reducer_argmin_f32_i32 (F := Ideal) (FloatOps.ofBits .f32 0x7F800000#32, 0#32) (d, 0#32) = (d, 0#32) := by
    unfold reducer_argmin_f32_i32
    simp only [start_top, Ideal.cmpf_def, Ideal.cmp]
    simp [Scalar.select, IntOp.ori, IntOp.andi, IntOp.cmpi]
  rw [first]
  unfold reducer_argmin_f32_i32
  simp only [Ideal.cmpf_def, Ideal.cmp]
  rcases lt_trichotomy (d : EReal) e with h | h | h
  · simp [Scalar.select, IntOp.ori, IntOp.andi, IntOp.cmpi, h, h.le, h.ne]
  · simp [Scalar.select, IntOp.ori, IntOp.andi, IntOp.cmpi, h]
  · simp [Scalar.select, IntOp.ori, IntOp.andi, IntOp.cmpi, not_lt.2 h.le, not_le.2 h, h.ne']

/-- The first of two columns of numbers. -/
theorem beside_first (a b : S1048576x1.Idx → Ideal .f32) (r : Fin 1048576) : beside (F := Ideal) a b (ix2 r (0 : Fin 2)) = a (ix2 r (0 : Fin 1)) := by
  unfold beside
  simp only [pointwise]
  rfl

/-- The second of two columns of numbers. -/
theorem beside_second (a b : S1048576x1.Idx → Ideal .f32) (r : Fin 1048576) : beside (F := Ideal) a b (ix2 r (1 : Fin 2)) = b (ix2 r (0 : Fin 1)) := by
  unfold beside
  rw [concatenate_pair_apply, dif_neg]
  · refine congrArg b (funext fun q => Fin.ext ?_)
    fin_cases q <;> rfl
  · exact Nat.lt_irrefl 1

/-- The place of the least, as the function that it is. -/
theorem leastPlace_eq : leastPlace (F := Ideal) = fun x y u v j =>
    (Host.argReduce (reducer_argmin_f32_i32 (F := Ideal)) x y u v reducesTo_S1048576x2_S1048576_d1 h_S_ j).2 := rfl

/-- The place of the least of a row's two numbers, found by a search from `+∞` at places counted from zero. -/
theorem leastPlace_apply (z : S1048576x2.Idx → Ideal .f32) (y : IVec S1048576x2 32) (u : S_.Idx → Ideal .f32) (v : IVec S_ 32) (r : Fin 1048576)
    (h0 : y (ix2 r (0 : Fin 2)) = 0#32) (h1 : y (ix2 r (1 : Fin 2)) = 1#32) (hu : ∀ j, u j = FloatOps.ofBits (F := Ideal) .f32 0x7F800000#32) (hv : ∀ j, v j = 0#32) :
    leastPlace (F := Ideal) z y u v (ix1 r) = if (z (ix2 r (0 : Fin 2)) : EReal) ≤ z (ix2 r (1 : Fin 2)) then 0#32 else 1#32 := by
  rw [leastPlace_eq]
  beta_reduce
  rw [Ideal.argReduce_eq_reduce2, Host.reduce2_eq_foldl_fiber, row_fiber, List.foldl_cons, List.foldl_cons, List.foldl_nil,
    h0, h1, hu, hv, least_two]

variable (x : FVec Ideal S1048576x2 FTy.f32) (r : Fin 1048576)

/-- The first candidate is numbered where it is as near. -/
theorem nearer_apply : nearer (F := Ideal) x (ix1 r)
    = if (dist2 (x (ix2 r (0 : Fin 2))) (x (ix2 r (1 : Fin 2))) (whole (x (ix2 r (0 : Fin 2)))) (second₁ (x (ix2 r (1 : Fin 2)))) : EReal)
        ≤ dist2 (x (ix2 r (0 : Fin 2))) (x (ix2 r (1 : Fin 2))) (halves (x (ix2 r (0 : Fin 2)))) (second₂ (x (ix2 r (1 : Fin 2)))) then 0#32 else 1#32 := by
  have nonneg : ∀ a b u v : Ideal .f32, (0 : EReal) ≤ dist2 a b u v := fun a b u v => by
    unfold dist2
    rw [Ideal.addf_def, Ideal.mulf_def, Ideal.mulf_def]
    exact add_nonneg (square_nonneg _) (square_nonneg _)
  unfold nearer
  rw [leastPlace_apply _ _ (constant (F := Ideal) S_ .f32 0x7F800000#32) (constantI S_ 32 0#32) r rfl rfl (fun _ => rfl) (fun _ => rfl), beside_first, beside_second, column_apply, column_apply, away_low, away_high]
  simp only [root_le_root _ _ (nonneg _ _ _ _) (nonneg _ _ _ _)]

/-- Which candidate the kernel's comparison takes. -/
theorem takeFirst_apply (a b : Ideal .f32) :
    takeFirst (F := Ideal) a b = if (dist2 a b (whole a) (second₁ b) : EReal) ≤ dist2 a b (halves a) (second₂ b) then 1#1 else 0#1 := by
  unfold takeFirst
  rw [Ideal.cmpf_def]
  generalize dist2 a b (whole a) (second₁ b) = d
  generalize dist2 a b (halves a) (second₂ b) = e
  unfold Ideal.cmp
  by_cases h : (d : EReal) ≤ e
  · rw [if_pos h]; simp [h]
  · rw [if_neg h]; simp [h]

/-- The reference's outcome at an entry is the candidate that the kernel's comparison takes. -/
theorem outcome_apply (j : Fin 2) : outcome (F := Ideal) x (ix2 r j)
    = Scalar.select (takeFirst (F := Ideal) (x (ix2 r (0 : Fin 2))) (x (ix2 r (1 : Fin 2)))) (low (F := Ideal) x (ix2 r j)) (high (F := Ideal) x (ix2 r j)) := by
  unfold outcome
  rw [takeFirst_apply]
  by_cases h : (dist2 (x (ix2 r (0 : Fin 2))) (x (ix2 r (1 : Fin 2))) (whole (x (ix2 r (0 : Fin 2)))) (second₁ (x (ix2 r (1 : Fin 2)))) : EReal)
      ≤ dist2 (x (ix2 r (0 : Fin 2))) (x (ix2 r (1 : Fin 2))) (halves (x (ix2 r (0 : Fin 2)))) (second₂ (x (ix2 r (1 : Fin 2))))
  · rw [chosen_apply (F := Ideal) _ _ _ r j 0 ((nearer_apply x r).trans (if_pos h)), if_pos h]
    rfl
  · rw [chosen_apply (F := Ideal) _ _ _ r j 1 ((nearer_apply x r).trans (if_neg h)), if_neg h]
    rfl

/-- The outcome's first coordinates. -/
theorem outcome_first : outcome (F := Ideal) x (ix2 r (0 : Fin 2)) = near₀ (F := Ideal) (x (ix2 r (0 : Fin 2))) (x (ix2 r (1 : Fin 2))) := by
  rw [outcome_apply, low_first, high_first, near₀]

/-- The outcome's second coordinates. -/
theorem outcome_second : outcome (F := Ideal) x (ix2 r (1 : Fin 2)) = near₁ (F := Ideal) (x (ix2 r (0 : Fin 2))) (x (ix2 r (1 : Fin 2))) := by
  rw [outcome_apply, low_second, high_second, near₁]

end Cert.Proof.Lattice.Reference

end
-- ==== Proof.Lattice.Equal.lean ====
/-
  Over the extended reals the program's result is the reference's: entry by entry the same candidate of the same point.
-/
module

public import proofs.«01_k».proof.Proof.Lattice.Layout
public import proofs.«01_k».proof.Proof.Lattice.Nearer

@[expose] public section

noncomputable section

namespace Cert.Proof.Lattice

open Idealize.ShloMosaic

/-- The two results are equal at every entry. -/
theorem results_equal (x : (⟨2, ![1048576, 2]⟩ : Shape).Idx → Ideal .f32) :
    unflat (F := Ideal) (answer (F := Ideal) (n := 2097152) (flat (F := Ideal) x)) = Reference.outcome (F := Ideal) x := by
  funext i
  rw [eq_ix2 i]
  generalize (i 0 : Fin 1048576) = r
  generalize (i 1 : Fin 2) = j
  fin_cases j
  · exact (result_first (F := Ideal) x r).trans (Reference.outcome_first x r).symm
  · exact (result_second (F := Ideal) x r).trans (Reference.outcome_second x r).symm

end Cert.Proof.Lattice

end
-- ==== Proof.Lattice.Frames.lean ====
/-
  The frames: each program runs, leaves its argument alone, and ends with every counter at zero. The reference's run also says
  what it leaves.
-/
module

public import proofs.«01_k».proof.Defs
public import proofs.«01_k».proof.Proof.Gen.Kernel
public import proofs.«01_k».proof.Proof.Lattice.Launch
public import proofs.«01_k».proof.Proof.Lattice.ReferenceRun
public import Idealize.ShloMosaic.Lib.Quiescent

@[expose] public section

noncomputable section

namespace Cert.Proof.Lattice

open Idealize.ShloMosaic Idealize.SL.Sem

/-- The kernel's frame, over bits. -/
theorem frame_kernel : Cert.quiescent_Kernel := fun m ρ _ =>
  (θ_run (Cert.Kernel.defs (F := Bits)) _ _).mono (fun _ h => ⟨fun c => (h.1 c).1, h.2⟩) (run_main (F := Bits) m ρ)

/-- The kernel's frame, over the extended reals. -/
theorem frame_ideal : Cert.quiescent_KernelIdeal := fun m ρ _ =>
  (θ_run (Cert.KernelIdeal.defs (F := Ideal)) _ _).mono (fun _ h => ⟨fun c => (h.1 c).1, h.2⟩) (run_main (F := Ideal) m ρ)

end Cert.Proof.Lattice

namespace Cert.Proof.Lattice.Reference

open Cert.ReferenceIdeal Cert.ReferenceIdeal.Gen
open Idealize.ShloMosaic Idealize.SL.Sem Idealize.ShloMosaic.StableHlo

variable {F : FTy → Type} [FloatOps F]

/-- The reference's run: its result, its argument, its counters. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v49) = outcome (m ((c.tc : Thread nD τ).loc main_arg0))
        ∧ r.2.mem ((c.tc : Thread nD τ).loc main_arg0) = m ((c.tc : Thread nD τ).loc main_arg0))
      ∧ r.2.sem = fun _ => 0 :=
  (θ_run (defs (F := F)) _ _).mono
    (fun r h => ⟨fun c => ⟨(h c main_v49).trans (after_ops _), (h c main_arg0).trans (after_ops_arg _)⟩, sem_eq_zero_of_no_sems rfl _⟩)
    (run_seq no_scoped_refs no_scoped_sems defs main (fun _ => ops) main_eq (fun _ => ops_sub) m ρ)

/-- The reference's frame. -/
theorem frame : Cert.quiescent_ReferenceIdeal := fun m ρ _ =>
  (θ_run (defs (F := Ideal)) _ _).mono (fun _ h => ⟨fun c => (h.1 c).2, h.2⟩) (run (F := Ideal) m ρ)

end Cert.Proof.Lattice.Reference

end
-- ==== Proof.Lattice.Agree.lean ====
/-
  The value claim: from equal points the program and the reference leave equal results over the extended reals.
-/
module

public import proofs.«01_k».proof.Proof.Lattice.Equal
public import proofs.«01_k».proof.Proof.Lattice.Frames

@[expose] public section

noncomputable section

namespace Cert.Proof.Lattice

open Idealize.ShloMosaic Idealize.SL.Sem

/-- The two programs agree. -/
theorem agree : Cert.algebraic_KernelIdeal_ReferenceIdeal := fun m ρ m' ρ' _ same =>
  ⟨fun c => unflat (F := Ideal) (left (F := Ideal) m c),
    (θ_run (Cert.KernelIdeal.defs (F := Ideal)) _ _).mono (fun _ h c => ⟨(h.1 c).2, (h.1 c).1⟩) (run_main (F := Ideal) m ρ),
    (θ_run (Cert.ReferenceIdeal.defs (F := Ideal)) _ _).mono
      (fun _ h c => ⟨((h.1 c).1.trans (congrArg (Reference.outcome (F := Ideal)) (same c))).trans (results_equal (m (aLoc c))).symm, (h.1 c).2⟩)
      (Reference.run (F := Ideal) m' ρ')⟩

end Cert.Proof.Lattice

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Lattice.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Lattice.frame_kernel, Lattice.frame_ideal, Lattice.Reference.frame, trivial, Lattice.agree⟩

end Cert.Proof

end
